-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S1 : Shape := ⟨1, ![1]⟩
abbrev S512x2048 : Shape := ⟨2, ![512, 2048]⟩
abbrev S8x512x512 : Shape := ⟨3, ![8, 512, 512]⟩
abbrev S7 : Shape := ⟨1, ![7]⟩
abbrev S8 : Shape := ⟨1, ![8]⟩
abbrev S_ : Shape := ⟨0, ![]⟩
abbrev S1x512x512 : Shape := ⟨3, ![1, 512, 512]⟩
abbrev S512x512 : Shape := ⟨2, ![512, 512]⟩

abbrev nBuf : Space → Nat
  | .hbm => 5
  | .vmem => 5
  | .smem => 2
  | _ => 0

abbrev bufTy : (tb : Table) → Fin (tcTables nBuf tb) → BufTy
  | .hbm, ⟨0, _⟩ => ⟨S4096x512, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .i8⟩
  | .local _ .vmem, ⟨1, _⟩ => ⟨S4096x2048, .i8⟩
  | .local _ .vmem, ⟨2, _⟩ => ⟨S512x2048, .f32⟩
  | .local _ .vmem, ⟨3, _⟩ => ⟨S8x512x512, .i8⟩
  | .local _ .vmem, ⟨4, _⟩ => ⟨S512x2048, .i32⟩
  | .local _ .smem, ⟨0, _⟩ => ⟨S1, .f32⟩
  | .local _ .smem, ⟨1, _⟩ => ⟨S1, .f32⟩
  | _, _ => ⟨S4096x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_34 : BitVec 32 := 0#32
  let c0_i32_35 : BitVec 32 := 0#32
  ![v2.toNat, 0, 0]
def k0_off3 (d0 : Dev nD) (c1_i32_29 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_29
  let c8_i32_30 : BitVec 32 := 8#32
  let v33 : BitVec 32 := Scalar.remsi v32 c8_i32_30
  let c512_i32 : BitVec 32 := 512#32
  let v34 : BitVec 32 := Scalar.muli v33 c512_i32
  let c0_i32_36 : BitVec 32 := 0#32
  ![v34.toNat, 0]
def k0_dev8 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let c8_i32_30 : BitVec 32 := 8#32
  let v33 : BitVec 32 := Scalar.remsi v32 c8_i32_30
  let c1_i32_32 : BitVec 32 := 1#32
  let v35 : BitVec 32 := Scalar.muli v33 c1_i32_32
  let v36 : BitVec 32 := Scalar.addi c0_i32_33 v35
  v36.toNat
def k0_dev9 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_37 : BitVec 32 := 2#32
  let v44 : BitVec 32 := Scalar.addi v2 c2_i32_37
  let c8_i32_38 : BitVec 32 := 8#32
  let v45 : BitVec 32 := Scalar.remsi v44 c8_i32_38
  let c1_i32_41 : BitVec 32 := 1#32
  let v47 : BitVec 32 := Scalar.muli v45 c1_i32_41
  let v48 : BitVec 32 := Scalar.addi c0_i32_42 v47
  v48.toNat
def k0_dev10 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_46 : BitVec 32 := 3#32
  let v56 : BitVec 32 := Scalar.addi v2 c3_i32_46
  let c8_i32_47 : BitVec 32 := 8#32
  let v57 : BitVec 32 := Scalar.remsi v56 c8_i32_47
  let c1_i32_50 : BitVec 32 := 1#32
  let v59 : BitVec 32 := Scalar.muli v57 c1_i32_50
  let v60 : BitVec 32 := Scalar.addi c0_i32_51 v59
  v60.toNat
def k0_dev11 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_55 : BitVec 32 := 4#32
  let v68 : BitVec 32 := Scalar.addi v2 c4_i32_55
  let c8_i32_56 : BitVec 32 := 8#32
  let v69 : BitVec 32 := Scalar.remsi v68 c8_i32_56
  let c1_i32_59 : BitVec 32 := 1#32
  let v71 : BitVec 32 := Scalar.muli v69 c1_i32_59
  let v72 : BitVec 32 := Scalar.addi c0_i32_60 v71
  v72.toNat
def k0_dev12 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_64 : BitVec 32 := 5#32
  let v80 : BitVec 32 := Scalar.addi v2 c5_i32_64
  let c8_i32_65 : BitVec 32 := 8#32
  let v81 : BitVec 32 := Scalar.remsi v80 c8_i32_65
  let c1_i32_68 : BitVec 32 := 1#32
  let v83 : BitVec 32 := Scalar.muli v81 c1_i32_68
  let v84 : BitVec 32 := Scalar.addi c0_i32_69 v83
  v84.toNat
def k0_dev13 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_73 : BitVec 32 := 6#32
  let v92 : BitVec 32 := Scalar.addi v2 c6_i32_73
  let c8_i32_74 : BitVec 32 := 8#32
  let v93 : BitVec 32 := Scalar.remsi v92 c8_i32_74
  let c1_i32_77 : BitVec 32 := 1#32
  let v95 : BitVec 32 := Scalar.muli v93 c1_i32_77
  let v96 : BitVec 32 := Scalar.addi c0_i32_78 v95
  v96.toNat
def k0_dev14 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_82 : BitVec 32 := 7#32
  let v104 : BitVec 32 := Scalar.addi v2 c7_i32_82
  let c8_i32_83 : BitVec 32 := 8#32
  let v105 : BitVec 32 := Scalar.remsi v104 c8_i32_83
  let c1_i32_86 : BitVec 32 := 1#32
  let v107 : BitVec 32 := Scalar.muli v105 c1_i32_86
  let v108 : BitVec 32 := Scalar.addi c0_i32_87 v107
  v108.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_91 : BitVec 32 := 512#32
  let v116 : BitVec 32 := Scalar.muli v2 c512_i32_91
  let v117 : Index := Scalar.indexCast v116
  let c0 : Index := 0#32
  ![v117.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_92 : BitVec 32 := 512#32
  let v120 : BitVec 32 := Scalar.muli v2 c512_i32_92
  let v121 : Index := Scalar.indexCast v120
  let c0_93 : Index := 0#32
  ![v121.toNat, 0]
def k0_off6 (d0 : Dev nD) (c1_i32_97 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_96 : BitVec 32 := 8#32
  let v128 : BitVec 32 := Scalar.addi v2 c8_i32_96
  let v129 : BitVec 32 := Scalar.subi v128 c1_i32_97
  let c8_i32_98 : BitVec 32 := 8#32
  let v130 : BitVec 32 := Scalar.remsi v129 c8_i32_98
  ![v130.toNat]
def k0_off7 (d0 : Dev nD) (c1_i32_97 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_96 : BitVec 32 := 8#32
  let v128 : BitVec 32 := Scalar.addi v2 c8_i32_96
  let v129 : BitVec 32 := Scalar.subi v128 c1_i32_97
  let c8_i32_98 : BitVec 32 := 8#32
  let v130 : BitVec 32 := Scalar.remsi v129 c8_i32_98
  let c0_i32_102 : BitVec 32 := 0#32
  let c0_i32_103 : BitVec 32 := 0#32
  ![v130.toNat, 0, 0]
def k0_off8 (d0 : Dev nD) (c1_i32_97 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_96 : BitVec 32 := 8#32
  let v128 : BitVec 32 := Scalar.addi v2 c8_i32_96
  let v129 : BitVec 32 := Scalar.subi v128 c1_i32_97
  let c8_i32_98 : BitVec 32 := 8#32
  let v130 : BitVec 32 := Scalar.remsi v129 c8_i32_98
  let v139 : Index := Scalar.indexCast v130
  let c0_108 : Index := 0#32
  let c0_109 : Index := 0#32
  ![v139.toNat, 0, 0]
def k0_off9 (d0 : Dev nD) (c1_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_96 : BitVec 32 := 8#32
  let v128 : BitVec 32 := Scalar.addi v2 c8_i32_96
  let v129 : BitVec 32 := Scalar.subi v128 c1_i32_97
  let c8_i32_98 : BitVec 32 := 8#32
  let v130 : BitVec 32 := Scalar.remsi v129 c8_i32_98
  let c512_i32_110 : BitVec 32 := 512#32
  let v142 : BitVec 32 := Scalar.muli v130 c512_i32_110
  let v143 : Index := Scalar.indexCast v142
  let c0_111 : Index := 0#32
  ![v143.toNat, 0]
abbrev stage0_0 : Fin 1 → Memref sig .tc .vmem S4096x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Peers.lean ====
/-
# The seven peers of a device

Device `c` meets its seven peers in a fixed order: its `r`-th peer is the device `r + 1` places further round the
ring of eight. Being the `r`-th peer of `c` is the same as having `c` for one's own `(6 - r)`-th peer, so the pairs
(device, place) are permuted by an involution; the exchange of tokens at launch goes along it.
-/
module

public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option backward.proofsInPublic true in
/-- The `r`-th peer of device `c`. -/
def tgt (c : Dev nD) (r : Fin 7) : Dev nD := ⟨(c.val + (r.val + 1)) % 8, Nat.mod_lt _ (by decide)⟩

set_option backward.proofsInPublic true in
/-- The place at which a device is met by the peer it meets at place `r`. -/
def mir (r : Fin 7) : Fin 7 := ⟨6 - r.val, by omega⟩

/-- The seven places in order. -/
abbrev places : List (Fin 7) := [0, 1, 2, 3, 4, 5, 6]

theorem mir_mir (r : Fin 7) : mir (mir r) = r := by revert r; decide
theorem tgt_mir (c : Dev nD) (r : Fin 7) : tgt (tgt c r) (mir r) = c := by revert c r; decide
theorem tgt_ne (c : Dev nD) (r : Fin 7) : tgt c r ≠ c := by revert c r; decide
theorem tgt_inj (c : Dev nD) {r r' : Fin 7} (h : tgt c r = tgt c r') : r = r' := by revert c r r'; decide

/-- The involution on pairs (device, place). -/
def peer : (Dev nD × Fin 7) ≃ (Dev nD × Fin 7) where
  toFun p := (tgt p.1 p.2, mir p.2)
  invFun p := (tgt p.1 p.2, mir p.2)
  left_inv p := by simp only [tgt_mir, mir_mir]
  right_inv p := by simp only [tgt_mir, mir_mir]

/-- A device is met by `c` at exactly one place, unless it is `c`. -/
theorem tgt_surj (c s : Dev nD) (h : s ≠ c) : ∃ r, tgt c r = s := by revert c s; decide

theorem univ_peers (c : Dev nD) : (Finset.univ : Finset (Dev nD)) = (c :: places.map (tgt c)).toFinset := by revert c; decide
theorem nodup_peers (c : Dev nD) : (c :: places.map (tgt c)).Nodup := by revert c; decide

/-- Something for every device is something for `c` and for each of its peers. -/
theorem bigSep_peers {M : Type} [URA M] (c : Dev nD) (Φ : Dev nD → sProp M) :
    bigSep Finset.univ Φ = iprop(Φ c ∗ bigSepL places fun r => Φ (tgt c r)) := by
  rw [bigSep_univ_eq_bigSepL (c :: places.map (tgt c)) (univ_peers c) (nodup_peers c), bigSepL_cons]
  rfl

/-- The device whose block `c` receives at place `r`. -/
abbrev src (c : Dev nD) (r : Fin 7) : Dev nD := tgt c (mir r)

/-- The seven places, last first. -/
abbrev placesRev : List (Fin 7) := [6, 5, 4, 3, 2, 1, 0]

theorem univ_srcs (c : Dev nD) : (Finset.univ : Finset (Dev nD)) = (c :: places.map (src c)).toFinset := by revert c; decide
theorem nodup_srcs (c : Dev nD) : (c :: places.map (src c)).Nodup := by revert c; decide
theorem univ_srcs_rev (c : Dev nD) : (Finset.univ : Finset (Dev nD)) = (c :: placesRev.map (src c)).toFinset := by revert c; decide
theorem nodup_srcs_rev (c : Dev nD) : (c :: placesRev.map (src c)).Nodup := by revert c; decide

/-- Something for every device is something for `c` and for each device whose block it receives. -/
theorem bigSep_srcs {M : Type} [URA M] (c : Dev nD) (Φ : Dev nD → sProp M) :
    bigSep Finset.univ Φ = iprop(Φ c ∗ bigSepL places fun r => Φ (src c r)) := by
  rw [bigSep_univ_eq_bigSepL (c :: places.map (src c)) (univ_srcs c) (nodup_srcs c), bigSepL_cons]
  rfl
theorem bigSep_srcs_rev {M : Type} [URA M] (c : Dev nD) (Φ : Dev nD → sProp M) :
    bigSep Finset.univ Φ = iprop(Φ c ∗ bigSepL placesRev fun r => Φ (src c r)) := by
  rw [bigSep_univ_eq_bigSepL (c :: placesRev.map (src c)) (univ_srcs_rev c) (nodup_srcs_rev c), bigSepL_cons]
  rfl

/-- Something for every place, place by place. -/
theorem bigSep_places {M : Type} [URA M] (Φ : Fin 7 → sProp M) : bigSep Finset.univ Φ = bigSepL places Φ :=
  bigSep_univ_eq_bigSepL places (by decide) (by decide) Φ

theorem bigSep_places_rev {M : Type} [URA M] (Φ : Fin 7 → sProp M) : bigSep Finset.univ Φ = bigSepL placesRev Φ :=
  bigSep_univ_eq_bigSepL placesRev (by decide) (by decide) Φ
theorem list_rev {M : Type} [URA M] (Φ : Fin 7 → sProp M) : bigSepL placesRev Φ = bigSepL places Φ :=
  (bigSep_places_rev Φ).symm.trans (bigSep_places Φ)

/-- A list of pairs is a pair of lists. -/
theorem places_sep {M : Type} [URA M] (Φ Ψ : Fin 7 → sProp M) :
    (bigSepL places fun r => iprop(Φ r ∗ Ψ r)) = iprop(bigSepL places Φ ∗ bigSepL places Ψ) := by
  rw [← bigSep_places, ← bigSep_places, ← bigSep_places, bigSep_sep']

end Cert.Exchange
-- ==== Proof.Blocks.lean ====
/-
# The buffers of a device, cut into blocks

The staged operand `x` of a device has 4096 rows, in eight blocks of 512; block `t` is what device `t` is sent. The
gather buffer has eight slots of 512 × 512; slot `s` is where device `s`'s block arrives. Here: the two families of
element sets, that each partitions its buffer, which of them the program's views go through, and what a block of one
device's `x` written through the view of a slot leaves there.
-/
module

public import proofs.«01_k».proof.Proof.Peers

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The element sets -/

/-- The elements of row block `t` of the staged `x`. -/
def rowSet (t : Dev nD) : Finset S4096x512.Idx := Finset.univ.filter fun i => (i 0).val / 512 = t.val
/-- The elements of slot `s` of the gather buffer. -/
def slotSet (s : Dev nD) : Finset S8x512x512.Idx := Finset.univ.filter fun i => (i 0).val = s.val

theorem mem_rowSet {t : Dev nD} {i : S4096x512.Idx} : i ∈ rowSet t ↔ (i 0).val / 512 = t.val := by
  unfold rowSet; rw [Finset.mem_filter]; exact ⟨fun h => h.2, fun h => ⟨Finset.mem_univ _, h⟩⟩
theorem mem_slotSet {s : Dev nD} {i : S8x512x512.Idx} : i ∈ slotSet s ↔ (i 0).val = s.val := by
  unfold slotSet; rw [Finset.mem_filter]; exact ⟨fun h => h.2, fun h => ⟨Finset.mem_univ _, h⟩⟩

theorem rowSet_disjoint (t t' : Dev nD) (h : t ≠ t') : Disjoint (rowSet t) (rowSet t') :=
  Finset.disjoint_left.mpr fun i h1 h2 => h (Fin.ext ((mem_rowSet.mp h1).symm.trans (mem_rowSet.mp h2)))
theorem slotSet_disjoint (s s' : Dev nD) (h : s ≠ s') : Disjoint (slotSet s) (slotSet s') :=
  Finset.disjoint_left.mpr fun i h1 h2 => h (Fin.ext ((mem_slotSet.mp h1).symm.trans (mem_slotSet.mp h2)))

/-- The row blocks are all of `x`. -/
theorem rowSet_cover : (Finset.univ : Finset (Dev nD)).biUnion rowSet = Finset.univ :=
  Finset.eq_univ_of_forall fun i => Finset.mem_biUnion.mpr
    ⟨⟨(i 0).val / 512, by have : (i 0).val < 4096 := (i 0).isLt; show _ < 8; omega⟩, Finset.mem_univ _, mem_rowSet.mpr rfl⟩
/-- The slots are all of the gather buffer. -/
theorem slotSet_cover : (Finset.univ : Finset (Dev nD)).biUnion slotSet = Finset.univ :=
  Finset.eq_univ_of_forall fun i => Finset.mem_biUnion.mpr ⟨⟨(i 0).val, (i 0).isLt⟩, Finset.mem_univ _, mem_slotSet.mpr rfl⟩

/-! ## The views -/

/-- Rows `512 t … 512 t + 511` of the staged `x`, as the copies name them. -/
abbrev rowView (off : Fin 2 → Nat) (h : ∀ a, off a + S512x512.size a ≤ S4096x512.size a) : Memref sig .tc .vmem S512x512 .i8 :=
  (Memref.whole cc0_stg0_0).slice (Rect.unit (s := S4096x512) off S512x512.size h) (fun _ => rfl)

/-- Slot `s` of the gather buffer, as the copies name it. -/
abbrev slotView (off : Fin 3 → Nat) (h : ∀ a, off a + S1x512x512.size a ≤ S8x512x512.size a) : Memref sig .tc .vmem S512x512 .i8 :=
  ((Memref.whole cc0_scratch0).slice (Rect.unit (s := S8x512x512) off S1x512x512.size h) (fun _ => rfl)).squeeze S512x512 squeezes_S1x512x512_S512x512

theorem row_rect (t : Dev nD) (h) : (Rect.unit (s := S4096x512) ![512 * t.val, 0] S512x512.size h).set = rowSet t := by
  ext i
  rw [Rect.mem_set_unit, mem_rowSet]
  have h1 : (i 1).val < 512 := (i 1).isLt
  constructor
  · intro hi
    have h0 : 512 * t.val ≤ (i 0).val ∧ (i 0).val < 512 * t.val + 512 := hi 0
    omega
  · intro hi a
    fin_cases a
    · show 512 * t.val ≤ (i 0).val ∧ (i 0).val < 512 * t.val + 512
      omega
    · show 0 ≤ (i 1).val ∧ (i 1).val < 0 + 512
      omega

theorem slot_rect (s : Dev nD) (h) : (Rect.unit (s := S8x512x512) ![s.val, 0, 0] S1x512x512.size h).set = slotSet s := by
  ext i
  rw [Rect.mem_set_unit, mem_slotSet]
  have h1 : (i 1).val < 512 := (i 1).isLt
  have h2 : (i 2).val < 512 := (i 2).isLt
  constructor
  · intro hi
    have h0 : s.val ≤ (i 0).val ∧ (i 0).val < s.val + 1 := hi 0
    omega
  · intro hi a
    fin_cases a
    · show s.val ≤ (i 0).val ∧ (i 0).val < s.val + 1
      omega
    · show 0 ≤ (i 1).val ∧ (i 1).val < 0 + 512
      omega
    · show 0 ≤ (i 2).val ∧ (i 2).val < 0 + 512
      omega

theorem rowView_set (t : Dev nD) (h) : (rowView ![512 * t.val, 0] h).view.set = rowSet t :=
  (View.set_slice_whole cc0_stg0_0 (Rect.unit (s := S4096x512) ![512 * t.val, 0] S512x512.size h)).trans (row_rect t h)

theorem slotView_set (s : Dev nD) (h) : (slotView ![s.val, 0, 0] h).view.set = slotSet s :=
  (View.set_reshape _ _).trans ((View.set_slice_whole cc0_scratch0 (Rect.unit (s := S8x512x512) ![s.val, 0, 0] S1x512x512.size h)).trans (slot_rect s h))

/-- Element `(p, q)` of row block `t` is element `(512 t + p, q)` of `x`. -/
theorem rowView_emb (t : Dev nD) (h) (j : S512x512.Idx) :
    ((rowView ![512 * t.val, 0] h).view.emb j 0).val = 512 * t.val + (j 0).val ∧ ((rowView ![512 * t.val, 0] h).view.emb j 1).val = (j 1).val := by
  constructor
  · show 512 * t.val + 1 * (j 0).val = _; omega
  · show 0 + 1 * (j 1).val = _; omega

/-- Element `(p, q)` of slot `s` is element `(s, p, q)` of the gather buffer. -/
theorem slotView_emb (s : Dev nD) (h) (j : S512x512.Idx) :
    ((slotView ![s.val, 0, 0] h).view.emb j 0).val = s.val ∧ ((slotView ![s.val, 0, 0] h).view.emb j 1).val = (j 0).val
      ∧ ((slotView ![s.val, 0, 0] h).view.emb j 2).val = (j 1).val := by
  have e : Shape.reshapeEquiv squeezes_S1x512x512_S512x512.numel_eq j = Fin.cons ⟨0, Nat.one_pos⟩ j :=
    Shape.reshapeEquiv_cons_one (n := 2) (d := ![512, 512]) squeezes_S1x512x512_S512x512.numel_eq j
  refine ⟨?_, ?_, ?_⟩
  · show s.val + 1 * (Shape.reshapeEquiv squeezes_S1x512x512_S512x512.numel_eq j 0).val = _
    rw [e]; show s.val + 1 * 0 = _; omega
  · show 0 + 1 * (Shape.reshapeEquiv squeezes_S1x512x512_S512x512.numel_eq j 1).val = _
    rw [e]; show 0 + 1 * (j 0).val = _; omega
  · show 0 + 1 * (Shape.reshapeEquiv squeezes_S1x512x512_S512x512.numel_eq j 2).val = _
    rw [e]; show 0 + 1 * (j 1).val = _; omega

/-! ## What arrives -/

section Landing
variable {F : FTy → Type} [FloatOps F]

/-- The gather buffer of device `c` once every block has arrived: slot `s` holds row block `c` of device `s`'s `x`. -/
def landed (X : Dev nD → (cc0_stg0_0 : Ref sig .tc).ty.Contents (Elt F)) (c : Dev nD) : (cc0_scratch0 : Ref sig .tc).ty.Contents (Elt F) :=
  fun i : S8x512x512.Idx => X ⟨(i 0).val, (i 0).isLt⟩
    (Shape.pair (d := ![4096, 512]) ⟨512 * c.val + (i 1).val, by
      have h1 : (i 1).val < 512 := (i 1).isLt
      have h2 : c.val < 8 := c.isLt
      show _ < 4096; omega⟩ ⟨(i 2).val, (i 2).isLt⟩ : S4096x512.Idx)

/-- Row block `t` of device `c`'s `x`, written through slot `c` of device `t`'s gather buffer, leaves in that slot what
    `landed` says. -/
theorem landing (X : Dev nD → (cc0_stg0_0 : Ref sig .tc).ty.Contents (Elt F)) (c t : Dev nD)
    (h : ∀ a, (![c.val, 0, 0] : Fin 3 → Nat) a + S1x512x512.size a ≤ S8x512x512.size a)
    (h' : ∀ a, (![512 * t.val, 0] : Fin 2 → Nat) a + S512x512.size a ≤ S4096x512.size a)
    (fd : (cc0_scratch0 : Ref sig .tc).ty.Contents (Elt F)) (i : S8x512x512.Idx) (hi : i ∈ slotSet c) :
    (slotView ![c.val, 0, 0] h).view.write (Elt F) fd ((rowView ![512 * t.val, 0] h').view.read (Elt F) (X c)) Finset.univ i
      = landed X t i := by
  rw [← slotView_set c h] at hi
  obtain ⟨j, -, rfl⟩ := Finset.mem_map.mp hi
  rw [View.write_emb_of_mem _ _ (Finset.mem_univ j)]
  obtain ⟨e0, e1, e2⟩ := slotView_emb c h j
  obtain ⟨r0, r1⟩ := rowView_emb t h' j
  show X c ((rowView ![512 * t.val, 0] h').view.emb j) = X _ _
  have hc : (⟨((slotView ![c.val, 0, 0] h).view.emb j 0).val, ((slotView ![c.val, 0, 0] h).view.emb j 0).isLt⟩ : Dev nD) = c := Fin.ext e0
  rw [hc]
  refine congrArg (X c) (funext fun a => Fin.ext ?_)
  fin_cases a
  · exact r0.trans (by show _ = 512 * t.val + _; rw [e1])
  · exact r1.trans e2.symm

end Landing

end Cert.Exchange
-- ==== Proof.Protocol.lean ====
/-
# The exchange protocol

Three kinds of semaphore carry the exchange, one round each.

* The **barrier** semaphore of device `c`. Each of `c`'s seven peers signals it one unit. Peer `p` hands over slot `c`
  of its own gather buffer, and that its receive semaphore for `c` has not been used. `c` waits for seven units, so
  after the wait it owns the slot it writes on each peer.
* The **send** semaphore `r` of device `c`. `c`'s copy to its `r`-th peer raises it, and hands back the row block
  that was read.
* The **receive** semaphore `s` of device `c`, for `s ≠ c`. Device `s`'s copy raises it, and hands over slot `s` of `c`'s
  gather buffer, holding row block `c` of device `s`'s `x`. The receive semaphore `c` of `c` itself is never used.

A payment is named by the place at which the payer is met by the device that waits; a copy's by place 0.
-/
module

public import proofs.«01_k».proof.Proof.Blocks

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's -/

abbrev UX : Type := URounds (GSem nD τ sig) (Fin 7)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## The semaphores -/

/-- The runtime's barrier semaphore. -/
abbrev barS : Sem sig := (SemArray.scalar (sig.barrier 0 rfl) : Sems sig S_).sem

set_option backward.proofsInPublic true in
/-- The send semaphore of place `r`. -/
def sendS (r : Fin 7) : DmaSem sig := ⟨5 + r.val, by have := r.isLt; show _ < 20; omega⟩
set_option backward.proofsInPublic true in
/-- The receive semaphore for device `s`. -/
def recvS (s : Dev nD) : DmaSem sig := ⟨12 + s.val, by have : s.val < 8 := s.isLt; show _ < 20; omega⟩

abbrev barCell (c : Dev nD) : GSem nD τ sig := ((c : Thread nD τ), .reg barS)
abbrev sendCell (c : Dev nD) (r : Fin 7) : GSem nD τ sig := ((c : Thread nD τ), .dma (sendS r))
abbrev recvCell (c s : Dev nD) : GSem nD τ sig := ((c : Thread nD τ), .dma (recvS s))

/-- What a semaphore is for. -/
inductive Role where
  | bar | send (r : Fin 7) | recv (s : Dev nD) | stage
  deriving DecidableEq

set_option backward.proofsInPublic true in
/-- The purpose of each semaphore: the barrier; DMA semaphores 0–4 stage the operands and the result, 5–11 are the send
    semaphores, 12–19 the receive semaphores. -/
def role : SemLoc sig → Role
  | .reg _ => .bar
  | .dma q => if h : q.val < 5 then .stage else if h' : q.val < 12 then .send ⟨q.val - 5, by omega⟩
      else .recv ⟨q.val - 12, by have : q.val < 20 := q.isLt; show _ < 8; omega⟩

theorem role_bar : role (.reg barS) = .bar := rfl
theorem role_send (r : Fin 7) : role (.dma (sendS r)) = .send r := by revert r; decide
theorem role_recv (s : Dev nD) : role (.dma (recvS s)) = .recv s := by revert s; decide

/-! ## The credit of a block -/

/-- Every copy moves one 512 × 512 block of bytes: this much credit. -/
abbrev N : ℕ := (slotView ![0, 0, 0] (by decide)).view.dmaCredit
theorem N_pos : 0 < N := View.dmaCredit_pos _ (by decide)

/-! ## What is handed over -/

variable (X : Dev nD → (cc0_stg0_0 : Ref sig .tc).ty.Contents (Elt F))

/-- Slot `s` of device `c`'s gather buffer. -/
def slotPts (c s : Dev nD) (f : (cc0_scratch0 : Ref sig .tc).ty.Contents (Elt F)) : sProp 𝕄 :=
  ((c : Thread nD τ).loc cc0_scratch0) ↦[slotSet s]{fullShare} f
/-- Row block `t` of device `c`'s staged `x`. -/
def rowPts (c t : Dev nD) : sProp 𝕄 := ((c : Thread nD τ).loc cc0_stg0_0) ↦[rowSet t]{fullShare} X c

instance slotPts_storable (c s : Dev nD) (f) : BI.Storable (upEmb : UEmb _ 𝕄) (slotPts (F := F) c s f) := by unfold slotPts; infer_instance
instance rowPts_storable (c t : Dev nD) : BI.Storable (upEmb : UEmb _ 𝕄) (rowPts (F := F) X c t) := by unfold rowPts; infer_instance

/-- What `c`'s `r`-th peer hands `c` with its signal. -/
def barPay (c : Dev nD) (r : Fin 7) : sProp 𝕄 :=
  iprop((∃ f, slotPts (tgt c r) c f) ∗ reached ER (recvCell (tgt c r) c) 0)

/-! ## The schedule -/

/-- The payments of the one round of a semaphore of device `c`. -/
def dutiesOf (c : Dev nD) : Role → Finset (Fin 7)
  | .bar => Finset.univ
  | .send _ => {0}
  | .recv s => if s = c then ∅ else {0}
  | .stage => ∅
/-- The units of one payment. -/
def amountOf : Role → ℕ
  | .bar => 1
  | _ => N
/-- What a payment hands over. -/
def payOf (c : Dev nD) (d : Fin 7) : Role → sProp 𝕄
  | .bar => barPay c d
  | .send r => rowPts X c (tgt c r)
  | .recv s => slotPts c s (landed X c)
  | .stage => iprop(emp)

instance payOf_storable (c : Dev nD) (d : Fin 7) (k : Role) : BI.Storable (upEmb : UEmb _ 𝕄) (payOf (F := F) X c d k) := by
  cases k <;> unfold payOf <;> (try unfold barPay) <;> infer_instance

/-- One round, round 0, for the TensorCores' semaphores. -/
def sched : Rounds.Schedule (GSem nD τ sig) (Fin 7) 𝕄 where
  duties g r := if r = 0 ∧ g.1.2 = .tc then dutiesOf g.1.1 (role g.2) else ∅
  unitless _ := False
  amount g _ _ := amountOf (role g.2)
  payload g _ d := payOf X g.1.1 d (role g.2)
  amount_pos g _ _ _ := by
    cases role g.2 <;> first | exact Nat.one_pos | exact N_pos

instance sched_storable (g : GSem nD τ sig) (r : ℕ) (d : Fin 7) : BI.Storable (upEmb : UEmb _ 𝕄) ((sched X).payload g r d) :=
  payOf_storable X g.1.1 d (role g.2)

/-! ### Its tables -/

theorem duties_bar (c : Dev nD) : (sched (F := F) X).duties (barCell c) 0 = Finset.univ := by
  dsimp only [sched]; rw [if_pos ⟨rfl, rfl⟩, role_bar]; rfl
theorem duties_send (c : Dev nD) (r : Fin 7) : (sched (F := F) X).duties (sendCell c r) 0 = {0} := by
  dsimp only [sched]; rw [if_pos ⟨rfl, rfl⟩, role_send]; rfl
theorem duties_recv (c s : Dev nD) (h : s ≠ c) : (sched (F := F) X).duties (recvCell c s) 0 = {0} := by
  dsimp only [sched]; rw [if_pos ⟨rfl, rfl⟩, role_recv]; exact if_neg h
theorem duties_self (c : Dev nD) (r : ℕ) : (sched (F := F) X).duties (recvCell c c) r = ∅ := by
  dsimp only [sched]; split
  · rw [role_recv]; exact if_pos rfl
  · rfl
theorem duties_later (g : GSem nD τ sig) : ∀ r, 1 ≤ r → (sched (F := F) X).duties g r = ∅ :=
  fun r hr => if_neg fun h => by omega

theorem amount_bar (c : Dev nD) (d : Fin 7) : (sched (F := F) X).amount (barCell c) 0 d = 1 := rfl
theorem amount_send (c : Dev nD) (r d : Fin 7) : (sched (F := F) X).amount (sendCell c r) 0 d = N := by dsimp only [sched]; rw [role_send]; rfl
theorem amount_recv (c s : Dev nD) (d : Fin 7) : (sched (F := F) X).amount (recvCell c s) 0 d = N := by dsimp only [sched]; rw [role_recv]; rfl

theorem payload_bar (c : Dev nD) (d : Fin 7) : (sched (F := F) X).payload (barCell c) 0 d = barPay c d := rfl
theorem payload_send (c : Dev nD) (r d : Fin 7) : (sched (F := F) X).payload (sendCell c r) 0 d = rowPts X c (tgt c r) := by
  dsimp only [sched]; rw [role_send]; rfl
theorem payload_recv (c s : Dev nD) (d : Fin 7) : (sched (F := F) X).payload (recvCell c s) 0 d = slotPts c s (landed X c) := by
  dsimp only [sched]; rw [role_recv]; rfl

theorem expect_bar (c : Dev nD) : (sched (F := F) X).expect (barCell c) 0 = 7 := by
  unfold Schedule.expect Schedule.amountOf
  rw [duties_bar, Finset.sum_congr rfl fun d _ => amount_bar X c d]; rfl
theorem expect_send (c : Dev nD) (r : Fin 7) : (sched (F := F) X).expect (sendCell c r) 0 = N := by
  unfold Schedule.expect Schedule.amountOf; rw [duties_send, Finset.sum_singleton, amount_send]
theorem expect_recv (c s : Dev nD) (h : s ≠ c) : (sched (F := F) X).expect (recvCell c s) 0 = N := by
  unfold Schedule.expect Schedule.amountOf; rw [duties_recv X c s h, Finset.sum_singleton, amount_recv]

/-- The whole round of a barrier: every peer's payload. -/
theorem rest_bar (c : Dev nD) : bigSep ((sched (F := F) X).duties (barCell c) 0 \ ∅) (fun d => (sched (F := F) X).payload (barCell c) 0 d)
    = bigSepL places (barPay c) := by
  rw [Finset.sdiff_empty, duties_bar, bigSep_places]; rfl
theorem rest_send (c : Dev nD) (r : Fin 7) : bigSep ((sched (F := F) X).duties (sendCell c r) 0 \ ∅) (fun d => (sched (F := F) X).payload (sendCell c r) 0 d)
    = rowPts X c (tgt c r) := by
  rw [Finset.sdiff_empty, duties_send, bigSep_singleton, payload_send]
theorem rest_recv (c s : Dev nD) (h : s ≠ c) : bigSep ((sched (F := F) X).duties (recvCell c s) 0 \ ∅) (fun d => (sched (F := F) X).payload (recvCell c s) 0 d)
    = slotPts c s (landed X c) := by
  rw [Finset.sdiff_empty, duties_recv X c s h, bigSep_singleton, payload_recv]

/-! ## What a device owes at launch, and the levels -/

/-- The arrivals device `c` still owes to the peers at the places listed. -/
def owedSend (c : Dev nD) : List (Fin 7) → CellTallies nD τ sig Unit
  | [] => 0
  | r :: l => owedSend c l + tallyAt (recvCell (tgt c r) c) () N
/-- The arrivals owed to every peer, and the signals still owed to the peers at the places listed. -/
def owedSig (c : Dev nD) : List (Fin 7) → CellTallies nD τ sig Unit
  | [] => owedSend c places
  | r :: l => owedSig c l + tallyAt (barCell (tgt c r)) () 1

/-- What device `c` owes at launch. -/
def O₀ (c : Dev nD) : CellTallies nD τ sig Unit := owedSig c places

def L (g : GSem nD τ sig) : Finset Unit := if g.1.2 = .tc then {()} else ∅
/-- Barriers at level 1, receive semaphores at 2, everything else at 0. -/
def lvRole : Role → ℕ
  | .bar => 1
  | .recv _ => 2
  | _ => 0
def lv (g : GSem nD τ sig) (_ : Unit) : ℕ := lvRole (role g.2)

theorem L_of_ne (g : GSem nD τ sig) (h : g.1.2 ≠ .tc) : L g = ∅ := if_neg h
theorem L_tc (c : Dev nD) (sm : SemLoc sig) : L ((c : Thread nD τ), sm) = {()} := if_pos rfl

theorem pos_of_add {a b : CellTallies nD τ sig Unit} {g : GSem nD τ sig} {u : Unit} (h : 0 < (a + b) g u) : 0 < a g u ∨ 0 < b g u := by
  rw [Pi.add_apply, Finsupp.add_apply] at h; omega
theorem pos_tallyAt {g g' : GSem nD τ sig} {u : Unit} {n : ℕ} (h : 0 < tallyAt g' () n g u) : g = g' := by
  rw [tallyAt_apply] at h
  by_contra hn
  rw [if_neg fun h' => hn h'.1] at h
  exact Nat.lt_irrefl 0 h

/-- Arrivals are owed to receive semaphores of peers only. -/
theorem owedSend_pos (c : Dev nD) (l : List (Fin 7)) {g : GSem nD τ sig} {u : Unit} (h : 0 < owedSend c l g u) : ∃ r, g = recvCell (tgt c r) c := by
  induction l with
  | nil => exact absurd h (Nat.lt_irrefl 0)
  | cons r l ih => exact (pos_of_add h).elim ih fun h => ⟨r, pos_tallyAt h⟩
theorem owedSig_pos (c : Dev nD) (l : List (Fin 7)) {g : GSem nD τ sig} {u : Unit} (h : 0 < owedSig c l g u) :
    (∃ r, g = recvCell (tgt c r) c) ∨ ∃ r, g = barCell (tgt c r) := by
  induction l with
  | nil => exact .inl (owedSend_pos c _ h)
  | cons r l ih => exact (pos_of_add h).elim ih fun h => .inr ⟨r, pos_tallyAt h⟩

/-- While it owes what it owes at launch, a device may wait for its operands' staging. -/
theorem mayWait_stage (c : Dev nD) (q : DmaSem sig) (hq : lvRole (role (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedSig_pos c _ hg with ⟨r, rfl⟩ | ⟨r, rfl⟩ <;> exact Finset.mem_singleton_self _)
      (fun p hp => by rw [Finset.mem_singleton.mp hp]; exact hq.le)
      (fun g u hg => by
        rcases owedSig_pos c _ hg with ⟨r, rfl⟩ | ⟨r, rfl⟩
        · show 0 < lvRole (role (.dma (recvS c))); rw [role_recv]; exact Nat.succ_pos 1
        · show 0 < lvRole (role (.reg barS)); decide)
  · rw [MayWait_zero]; iintro -; iempintro

/-- At its barrier a device owes arrivals only, and receive semaphores are above barriers. -/
theorem mayWait_bar (c : Dev nD) : (levAts L lv : sProp 𝕄) ⊢ MayWait (c : Thread nD τ) (.reg barS) () (owedSend c places) :=
  MayOwe.of_cut (L := L) (lev := lv) 1 (fun p hp => by rw [Finset.mem_singleton.mp hp, L_tc]; exact Finset.mem_singleton_self _)
    (fun g u hg => by obtain ⟨r, rfl⟩ := owedSend_pos c _ hg; exact Finset.mem_singleton_self _)
    (fun p hp => by rw [Finset.mem_singleton.mp hp]; exact le_rfl)
    (fun g u hg => by
      obtain ⟨r, rfl⟩ := owedSend_pos c _ hg
      show 1 < lvRole (role (.dma (recvS c))); rw [role_recv]; exact Nat.one_lt_two)

end Cert.Exchange
-- ==== Proof.Steps.lean ====
/-
# The exchange, step by step

One lemma per kind of step of the body, for every device and every place: a signal to a peer's barrier, the wait on the
own barrier, the start of a copy, the wait for a block with the product accumulated from it, and the wait for a copy to
have left. Each moves one place from the list of those to come to the list of those done, so that a run of seven steps is
the lemma applied seven times.
-/
module

public import proofs.«01_k».proof.Proof.Protocol
public import proofs.«01_k».proof.Proof.Gen.KernelIdeal.Skeleton

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The semaphores the exchange allocates -/

set_option backward.proofsInPublic true in
/-- Semaphore `k` of a device: its barrier, then its seven send and its eight receive semaphores. -/
def csem (k : Fin 16) : SemLoc sig :=
  if k.val = 0 then .reg barS else .dma ⟨4 + k.val, by have := k.isLt; show _ < 20; omega⟩
/-- The semaphore a pair (device, number) names. -/
def kcell (p : Dev nD × Fin 16) : GSem nD τ sig := ((p.1 : Thread nD τ), csem p.2)

set_option backward.proofsInPublic true in
def iSend (r : Fin 7) : Fin 16 := ⟨1 + r.val, by have := r.isLt; omega⟩
set_option backward.proofsInPublic true in
def iRecv (s : Dev nD) : Fin 16 := ⟨8 + s.val, by have : s.val < 8 := s.isLt; omega⟩

theorem kcell_bar (c : Dev nD) : kcell (c, 0) = barCell c := rfl
theorem kcell_send (c : Dev nD) (r : Fin 7) : kcell (c, iSend r) = sendCell c r := by
  have h : csem (iSend r) = .dma (sendS r) := by revert r; decide
  unfold kcell; rw [h]
theorem kcell_recv (c s : Dev nD) : kcell (c, iRecv s) = recvCell c s := by
  have h : csem (iRecv s) = .dma (recvS s) := by revert s; decide
  unfold kcell; rw [h]

variable (X : Dev nD → (cc0_stg0_0 : Ref sig .tc).ty.Contents (Elt F)) (K : Dev nD × Fin 16 → ℕ)

/-- What every device knows: the protocol holds at every semaphore, and each has come to its round 0. -/
def records : sProp 𝕄 :=
  bigSep Finset.univ fun p => iprop(cellInv ER (sched X) (K p) (kcell p) ∗ reached ER (kcell p) 0)

instance records_persistent : BI.Persistent (records X K) := by unfold records; infer_instance

theorem records_at (p : Dev nD × Fin 16) : records X K ⊢ iprop(cellInv ER (sched X) (K p) (kcell p) ∗ reached ER (kcell p) 0) := by
  unfold records; exact bigSep_elim (Finset.mem_univ p)
theorem records_bar (c : Dev nD) : records X K ⊢ iprop(cellInv ER (sched X) (K (c, 0)) (barCell c) ∗ reached ER (barCell c) 0) :=
  records_at X K (c, 0)
theorem records_send (c : Dev nD) (r : Fin 7) :
    records X K ⊢ iprop(cellInv ER (sched X) (K (c, iSend r)) (sendCell c r) ∗ reached ER (sendCell c r) 0) := by
  rw [← kcell_send]; exact records_at X K (c, iSend r)
theorem records_recv (c s : Dev nD) :
    records X K ⊢ iprop(cellInv ER (sched X) (K (c, iRecv s)) (recvCell c s) ∗ reached ER (recvCell c s) 0) := by
  rw [← kcell_recv]; exact records_at X K (c, iRecv s)

/-- What device `c` owes, whatever it has waited for so far. -/
def owesE (c : Dev nD) (O : CellTallies nD τ sig Unit) : sProp 𝕄 := iprop(∃ W : Waits sig Unit, owes (c : Thread nD τ) O W)

/-- The exchange's semaphores by the expressions the program names them with. -/
theorem recvSem_eq (s : Dev nD) (off : Fin 1 → Nat) (h) (ho : off = ![s.val]) :
    (((cc0_scratch3 : DmaSems sig S8).slice (Rect.unit (s := S8) off S1.size h)).squeeze S_ squeezes_S1_S_).sem = recvS s := by
  subst ho; revert s; decide
theorem sendSem_eq (r : Fin 7) (off : Fin 1 → Nat) (h) (ho : off = ![r.val]) :
    (((cc0_scratch2 : DmaSems sig S7).slice (Rect.unit (s := S7) off S1.size h)).squeeze S_ squeezes_S1_S_).sem = sendS r := by
  subst ho; revert r; decide

section Steps

/-! ## The signals -/

/-- Before the signals to the peers at the places listed: what is owed, the right to each payment, and the slot handed
    over with it. -/
def sigSt (c : Dev nD) (l : List (Fin 7)) : sProp 𝕄 :=
  iprop(owesE c (owedSig c l) ∗ bigSepL l fun r => iprop(dutyTok ER (barCell (tgt c r)) 0 (mir r) ∗ ∃ f, slotPts c (tgt c r) f))

/-- A signal to the barrier of the `r`-th peer. -/
theorem signal_step {α : Type} {Q : α → sProp 𝕄} {k : PUnit → Prog (TpuEff nD τ sig (Elt F) Λ₀ .tc) α}
    (c n : Dev nD) (r : Fin 7) (l : List (Fin 7)) (z : Int) (hn : n = tgt c r) (hz : z = ((1 : ℕ) : Int)) :
    iprop(records X K ∗ sigSt c (r :: l))
      ⊢ iprop((sigSt c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS z) k) Q) := by
  subst hn; subst hz
  unfold sigSt owesE
  rw [bigSepL_cons']
  iintro ⟨#HR, ⟨%W, HO⟩, ⟨Ht, Hs⟩, Hl⟩ Hk
  ihave HB := (records_bar X K (tgt c r)) $$ HR
  icases HB with ⟨#HI, #Hr⟩
  ihave HV := (records_recv X K c (tgt c r)) $$ HR
  icases HV with ⟨-, #HrV⟩
  iapply (Rounds.wp_signal 𝒱₀ ER (sched X) (c : Thread nD τ) none (dst := (tgt c r : Thread nD τ)) (κ := K (tgt c r, 0))
      (d := mir r) (by rw [duties_bar]; exact Finset.mem_univ _) (amount_bar X (tgt c r) (mir r)) () (owedSig c l) rfl (W := W)) $$ [HO Ht Hs]
  · isplitr; · iexact HI
    isplitl [HO]; · iexact HO
    isplitl [Ht]; · iexact Ht
    isplitl [Hs]
    · rw [payload_bar]; unfold barPay; rw [tgt_mir]
      isplitl [Hs]; · iexact Hs
      iexact HrV
    iexact Hr
  iintro HO
  iapply Hk
  isplitl [HO]; · iexists W; iexact HO
  iexact Hl

/-! ## The barrier -/

/-- The wait for the seven peers: their slots for `c` are `c`'s, and the barrier is at rest. -/
theorem barrier_step {α : Type} {Q : α → sProp 𝕄} {k : PUnit → Prog (TpuEff nD τ sig (Elt F) Λ₀ .tc) α}
    (c : Dev nD) (z : Int) (hz : z = ((7 : ℕ) : Int)) :
    iprop(records X K ∗ levAts L lv ∗ owesE c (owedSend c places) ∗ cred (tallyAt (barCell c) () 7) ∗ atPos ER (barCell c) 0 ∅ 0)
      ⊢ iprop((iprop(owesE c (owedSend c places) ∗ bigSepL places (barPay c) ∗ semVal (barCell c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS z) k) Q) := by
  subst hz
  unfold owesE
  iintro ⟨#HR, #Hlev, ⟨%W, HO⟩, Hc, Hat⟩ Hk
  ihave HB := (records_bar X K c) $$ HR
  icases HB with ⟨#HI, -⟩
  iapply (Rounds.wp_wait_rest_token 𝒱₀ ER (sched X) (c : Thread nD τ) none (κ := K (c, 0))
      (wpE_semWait_eq 𝒱₀ (c : Thread nD τ) none Set.univ) (Set.mem_univ _) () (O := owedSend c places) (W := W) (R := 0) (m := 0) (T := ∅)
      (by rw [Nat.zero_add, expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  imod (Rounds.cell_close ER (sched X) (Set.mem_univ (K (c, 0))) (fun h => h) (R := 0 + 1) (duties_later X (barCell c))) $$ [Hat] with Hz
  · isplitr; · iexact HI
    iexact Hat
  iapply Hk
  isplitl [HO]; · iexists _; iexact HO
  isplitl [Hp]; · iexact Hp
  iexact Hz

/-! ## The copies -/

/-- Before the copies to the peers at the places `l`: what is owed, and for each the rights to the two payments, the row
    block sent and the slot written; after those at the places `d`: the credit each leaves. -/
def sendSt (c : Dev nD) (l d : List (Fin 7)) : sProp 𝕄 :=
  iprop(owesE c (owedSend c l)
    ∗ (bigSepL l fun r => iprop((dutyTok ER (sendCell c r) 0 0 ∗ dutyTok ER (recvCell (tgt c r) c) 0 0) ∗ rowPts X c (tgt c r) ∗ barPay c r))
    ∗ bigSepL d fun r => cred (tallyAt (sendCell c r) () N))

set_option maxHeartbeats 1600000 in
/-- The start of the copy to the `r`-th peer. -/
theorem send_step {α : Type} {Q : α → sProp 𝕄} {k : PUnit → Prog (TpuEff nD τ sig (Elt F) Λ₀ .tc) α}
    (c n : Dev nD) (r : Fin 7) (l d : List (Fin 7)) (hn : n = tgt c r)
    {offx : Fin 2 → Nat} {hx : ∀ a, offx a + S512x512.size a ≤ S4096x512.size a} (hox : offx = ![512 * (tgt c r).val, 0])
    {offs : Fin 3 → Nat} {hs : ∀ a, offs a + S1x512x512.size a ≤ S8x512x512.size a} (hos : offs = ![c.val, 0, 0])
    {sS sR : DmaSem sig} (hsS : sS = sendS r) (hsR : sR = recvS c)
    {hsc : (slotView offs hs).view.ref.isScScratch = false}
    {hsrc : (rowView offx hx).view.WordExact} {hdst : (slotView offs hs).view.WordExact}
    {hsem : DmaTarget.Typed .vmem (.dma sR) (.remote (Dev.tc n : Thread nD τ) (slotView offs hs) (.dma sS) hsc)} :
    iprop(records X K ∗ sendSt X c (r :: l) d)
      ⊢ iprop((sendSt X c l (r :: d) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowView offx hx) (.remote (Dev.tc n : Thread nD τ) (slotView offs hs) (.dma sS) hsc) (.dma sR) hsrc hdst hsem) k) Q) := by
  subst hn; subst hox; subst hos; subst hsS; subst hsR
  have h₁ : (0 : Fin 7) ∈ (sched (F := F) X).duties (sendCell c r) 0 := by rw [duties_send]; exact Finset.mem_singleton_self _
  have h₂ : (0 : Fin 7) ∈ (sched (F := F) X).duties (recvCell (tgt c r) c) 0 := by
    rw [duties_recv X _ _ (tgt_ne c r).symm]; exact Finset.mem_singleton_self _
  have hN : (slotView ![c.val, 0, 0] hs).view.amount (.dma (recvS c)) = N := rfl
  have hp₁ : ((rowView ![512 * (tgt c r).val, 0] hx).view.loc (c : Thread nD τ) ↦[(rowView ![512 * (tgt c r).val, 0] hx).view.set]{fullShare} X c)
      ⊢ (sched (F := F) X).payload (sendCell c r) 0 0 := by
    rw [payload_send]; unfold rowPts; rw [rowView_set]
  have hp₂ : ∀ f, ((slotView ![c.val, 0, 0] hs).view.loc (tgt c r : Thread nD τ) ↦[(slotView ![c.val, 0, 0] hs).view.set]{fullShare}
        ((slotView ![c.val, 0, 0] hs).view.write (Elt F) f ((rowView ![512 * (tgt c r).val, 0] hx).view.read (Elt F) (X c)) Finset.univ))
      ⊢ (sched (F := F) X).payload (recvCell (tgt c r) c) 0 0 := by
    intro f
    rw [payload_recv]; unfold slotPts; rw [slotView_set]
    exact Entails.of_eq (pointsTo_congr fun i hi => landing X c (tgt c r) hs hx f i hi)
  have H := fun (f : (cc0_scratch0 : Ref sig .tc).ty.Contents (Elt F)) (W : Waits sig Unit) =>
    Rounds.wp_send_pointsTo (defs := defs₀ (F := F)) (Γ := .empty) (Q := Q) (k := k) (Es := Set.univ) (hsrc := hsrc) (hdst := hdst) (hsem := hsem) 𝒱₀ ER (sched X) (c : Thread nD τ) none
      (c' := (Dev.tc (tgt c r) : Thread nD τ)) (src := rowView ![512 * (tgt c r).val, 0] hx) (dst := slotView ![c.val, 0, 0] hs)
      (q := fullShare) (κ₁ := K (c, iSend r)) (κ₂ := K (tgt c r, iRecv c))
      (r₁ := 0) (r₂ := 0) (d₁ := 0) (d₂ := 0) (sS := .dma (sendS r)) (sem := .dma (recvS c)) (fs := X c) (fd := f) h₁ h₂ () () N hN
      (amount_send X c r 0) (amount_recv X (tgt c r) c 0) (owedSend c l) (O₀ := owedSend c (r :: l)) rfl (W := W) hp₁ (hp₂ f)
  unfold sendSt owesE
  rw [bigSepL_cons', bigSepL_cons']
  unfold barPay
  iintro ⟨#HR, ⟨%W, HO⟩, ⟨⟨⟨HtS, HtV⟩, Hx, ⟨%f, Hd⟩, -⟩, Hl⟩, Hc⟩ Hk
  ihave HS := (records_send X K c r) $$ HR
  icases HS with ⟨#HIS, #HrS⟩
  ihave HV := (records_recv X K (tgt c r) c) $$ HR
  icases HV with ⟨#HIV, #HrV⟩
  iapply (H f W) $$ [HO Hx Hd HtS HtV]
  · isplitr; · iexact HIS
    isplitr; · iexact HIV
    isplitl [Hx]; · rw [rowView_set]; unfold rowPts; iexact Hx
    isplitl [Hd]; · rw [slotView_set]; unfold slotPts; iexact Hd
    isplitl [HO]; · iexact HO
    isplitl [HtS]; · iexact HtS
    isplitr; · iexact HrS
    isplitl [HtV]; · iexact HtV
    iexact HrV
  iintro ⟨HcS, HO⟩
  iapply Hk
  isplitl [HO]; · iexists W; iexact HO
  isplitl [Hl]; · iexact Hl
  isplitl [HcS]; · iexact HcS
  iexact Hc

/-! ## The copies have left -/

/-- Before the waits for the copies to the peers at the places `l` to have left, and after those for `d`. -/
def leftSt (c : Dev nD) (l d : List (Fin 7)) : sProp 𝕄 :=
  iprop(owesE c 0
    ∗ (bigSepL l fun r => iprop(cred (tallyAt (sendCell c r) () N) ∗ atPos ER (sendCell c r) 0 ∅ 0))
    ∗ bigSepL d fun r => iprop(rowPts X c (tgt c r) ∗ semVal (sendCell c r) 0))

/-- The wait for the copy to the `r`-th peer to have left. -/
theorem left_step {α : Type} {Q : α → sProp 𝕄} {k : PUnit → Prog (TpuEff nD τ sig (Elt F) Λ₀ .tc) α}
    (c : Dev nD) (r : Fin 7) (l d : List (Fin 7))
    {sS : DmaSem sig} (hsS : sS = sendS r) {sp sp' : Space} {s s' : Shape} {e e' : EltTy}
    {src : Memref sig .tc sp' s' e'} {dst : Memref sig .tc sp s e}
    {hsrc : src.view.WordExact} {hdst : dst.view.WordExact} (hN : dst.view.dmaCredit = N) :
    iprop(records X K ∗ leftSt X c (r :: l) d)
      ⊢ iprop((leftSt X c l (r :: d) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hsS
  unfold leftSt owesE
  rw [bigSepL_cons', bigSepL_cons']
  iintro ⟨#HR, ⟨%W, HO⟩, ⟨⟨Hc, Hat⟩, Hl⟩, Hd⟩ Hk
  ihave HS := (records_send X K c r) $$ HR
  icases HS with ⟨#HI, -⟩
  iapply (Rounds.wp_wait_rest_token 𝒱₀ ER (sched X) (c : Thread nD τ) none (κ := K (c, iSend r))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_send X c r)) $$ Hpay
  imod (Rounds.cell_close ER (sched X) (Set.mem_univ (K (c, iSend r))) (fun h => h) (R := 0 + 1) (duties_later X (sendCell c r))) $$ [Hat] with Hz
  · isplitr; · iexact HI
    iexact Hat
  iapply Hk
  isplitl [HO]; · iexists _; iexact HO
  isplitl [Hl]; · iexact Hl
  isplitl [Hp Hz]
  · isplitl [Hp]; · iexact Hp
    iexact Hz
  iexact Hd

/-! ## The arrivals -/

/-- Before the waits for the blocks received at the places `l`, and after those at `d`. -/
def gotSt (c : Dev nD) (l d : List (Fin 7)) : sProp 𝕄 :=
  iprop(owesE c 0
    ∗ (bigSepL l fun r => iprop(cred (tallyAt (recvCell c (src c r)) () N) ∗ atPos ER (recvCell c (src c r)) 0 ∅ 0))
    ∗ bigSepL d fun r => iprop(slotPts c (src c r) (landed X c) ∗ semVal (recvCell c (src c r)) 0))

/-- The wait for the block received at place `r`. -/
theorem got_step {α : Type} {Q : α → sProp 𝕄} {k : PUnit → Prog (TpuEff nD τ sig (Elt F) Λ₀ .tc) α}
    (c : Dev nD) (r : Fin 7) (l d : List (Fin 7))
    {sR : DmaSem sig} (hsR : sR = recvS (src c r)) {sp sp' : Space} {s s' : Shape} {e e' : EltTy}
    {vs : Memref sig .tc sp' s' e'} {dst : Memref sig .tc sp s e}
    {hsrc : vs.view.WordExact} {hdst : dst.view.WordExact} (hN : dst.view.dmaCredit = N) :
    iprop(records X K ∗ gotSt X c (r :: l) d)
      ⊢ iprop((gotSt X c l (r :: d) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR vs dst hsrc hdst) k) Q) := by
  subst hsR
  unfold gotSt owesE
  rw [bigSepL_cons', bigSepL_cons']
  iintro ⟨#HR, ⟨%W, HO⟩, ⟨⟨Hc, Hat⟩, Hl⟩, Hd⟩ Hk
  ihave HV := (records_recv X K c (src c r)) $$ HR
  icases HV with ⟨#HI, -⟩
  iapply (Rounds.wp_wait_rest_token 𝒱₀ ER (sched X) (c : Thread nD τ) none (κ := K (c, iRecv (src c r)))
      (wpE_waitDma2_eq 𝒱₀ (c : Thread nD τ) none Set.univ) (Set.mem_univ _) () (O := 0) (W := W) (R := 0) (m := 0) (T := ∅)
      (by rw [Nat.zero_add, expect_recv X _ _ (tgt_ne c (mir r)), hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_recv X c (src c r) (tgt_ne c (mir r)))) $$ Hpay
  imod (Rounds.cell_close ER (sched X) (Set.mem_univ (K (c, iRecv (src c r)))) (fun h => h) (R := 0 + 1) (duties_later X (recvCell c (src c r)))) $$ [Hat] with Hz
  · isplitr; · iexact HI
    iexact Hat
  iapply Hk
  isplitl [HO]; · iexists _; iexact HO
  isplitl [Hl]; · iexact Hl
  isplitl [Hp Hz]
  · isplitl [Hp]; · iexact Hp
    iexact Hz
  iexact Hd

/-- The receive semaphore a device would use for itself is never used: it is at rest. -/
theorem self_close (c : Dev nD) :
    iprop(records X K ∗ atPos ER (recvCell c c) 0 ∅ 0) ⊢ iprop(|={Set.univ}=> semVal (recvCell c c) 0) := by
  iintro ⟨#HR, Hat⟩
  ihave HV := (records_recv X K c c) $$ HR
  icases HV with ⟨#HI, -⟩
  iapply (Rounds.cell_close ER (sched X) (Set.mem_univ (K (c, iRecv c))) (fun h => h) (R := 0) (fun r _ => duties_self X c r)) $$ [Hat]
  isplitr; · iexact HI
  iexact Hat

end Steps

end Cert.Exchange
-- ==== Proof.Compute.lean ====
/-
# What a device computes

Device `c` multiplies its own block by its own rows of the weight into the accumulator, and then, as each block arrives,
adds that block's product with the rows of the weight that belong to its sender. Here: the values, the reads that yield
them, and the step that waits for a block and adds its product.
-/
module

public import proofs.«01_k».proof.Proof.Steps

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The values -/

theorem row_lt (t : Dev nD) (p : ℕ) (hp : p < 512) : 512 * t.val + p < 4096 := by
  have : t.val < 8 := t.isLt
  omega

/-- Row block `t` of `x`. -/
def rowsX (t : Dev nD) (x : (cc0_stg0_0 : Ref sig .tc).ty.Contents (Elt F)) : Vec F S512x512 .i8 := fun j : S512x512.Idx =>
  x (Shape.pair (d := ![4096, 512]) ⟨512 * t.val + (j 0).val, row_lt t _ (j 0).isLt⟩ ⟨(j 1).val, (j 1).isLt⟩ : S4096x512.Idx)
/-- Row block `s` of the weight. -/
def rowsW (s : Dev nD) (w : (cc0_stg1_0 : Ref sig .tc).ty.Contents (Elt F)) : Vec F S512x2048 .i8 := fun j : S512x2048.Idx =>
  w (Shape.pair (d := ![4096, 2048]) ⟨512 * s.val + (j 0).val, row_lt s _ (j 0).isLt⟩ ⟨(j 1).val, (j 1).isLt⟩ : S4096x2048.Idx)
/-- Row block `c` of `x`, as a slot of the gather buffer holds it. -/
def slotX (c : Dev nD) (x : (cc0_stg0_0 : Ref sig .tc).ty.Contents (Elt F)) : Vec F S1x512x512 .i8 := fun j : S1x512x512.Idx =>
  x (Shape.pair (d := ![4096, 512]) ⟨512 * c.val + (j 1).val, row_lt c _ (j 1).isLt⟩ ⟨(j 2).val, (j 2).isLt⟩ : S4096x512.Idx)
/-- The one entry of a scale. -/
def scalar (f : S1.Idx → Elt F .f32) : Elt F .f32 := f (Shape.Idx.first (numel1_S1.symm ▸ Nat.one_pos))

variable (X : Dev nD → (cc0_stg0_0 : Ref sig .tc).ty.Contents (Elt F)) (Wt : Dev nD → (cc0_stg1_0 : Ref sig .tc).ty.Contents (Elt F))

/-- The accumulator of device `c` once the blocks received at the places listed, latest first, are added. -/
def accAt (c : Dev nD) : List (Fin 7) → IVec S512x2048 32
  | [] => k0_pay3 (k0_pay2 (F := F) (rowsX c (X c))) (rowsW c (Wt c))
  | r :: d => k0_pay4 (F := F) (accAt c d) (slotX c (X (src c r))) (rowsW (src c r) (Wt c))

/-! ## The reads -/

/-- The program's load of row block `t` of `x` reads it. -/
theorem read_rowsX (t : Dev nD) (h) (f : (cc0_stg0_0 : Ref sig .tc).ty.Contents (Elt F)) :
    ((Memref.whole cc0_stg0_0 : Memref sig .tc .vmem S4096x512 .i8).access (Rect.unit (s := S4096x512) ![512 * t.val, 0] S512x512.size h)).read (Elt F) f
      = rowsX t f := funext fun j => by
  refine congrArg f (funext fun a => Fin.ext ?_)
  obtain ⟨e0, e1⟩ := rowView_emb t h j
  fin_cases a
  · exact e0
  · exact e1

/-- The program's load of row block `s` of the weight reads it. -/
theorem read_rowsW (s : Dev nD) (h) (f : (cc0_stg1_0 : Ref sig .tc).ty.Contents (Elt F)) :
    ((Memref.whole cc0_stg1_0 : Memref sig .tc .vmem S4096x2048 .i8).access (Rect.unit (s := S4096x2048) ![512 * s.val, 0] S512x2048.size h)).read (Elt F) f
      = rowsW s f := funext fun j => by
  refine congrArg f (funext fun a => Fin.ext ?_)
  fin_cases a
  · show 512 * s.val + 1 * (j 0).val = 512 * s.val + (j 0).val; omega
  · show 0 + 1 * (j 1).val = (j 1).val; omega

/-- The program's load of slot `s` of the gather buffer reads device `s`'s block. -/
theorem read_slot (c s : Dev nD) (h) :
    ((Memref.whole cc0_scratch0 : Memref sig .tc .vmem S8x512x512 .i8).access (Rect.unit (s := S8x512x512) ![s.val, 0, 0] S1x512x512.size h)).read (Elt F) (landed X c)
      = slotX c (X s) := funext fun j => by
  have h0 : (j 0).val = 0 := by have : (j 0).val < 1 := (j 0).isLt; omega
  show landed X c ((Rect.unit (s := S8x512x512) ![s.val, 0, 0] S1x512x512.size h).idx j) = _
  unfold landed slotX
  have hs : (⟨((Rect.unit (s := S8x512x512) ![s.val, 0, 0] S1x512x512.size h).idx j 0).val,
      ((Rect.unit (s := S8x512x512) ![s.val, 0, 0] S1x512x512.size h).idx j 0).isLt⟩ : Dev nD) = s :=
    Fin.ext (by show s.val + 1 * (j 0).val = s.val; omega)
  rw [hs]
  refine congrArg (X s) (funext fun a => Fin.ext ?_)
  fin_cases a
  · show 512 * c.val + (0 + 1 * (j 1).val) = 512 * c.val + (j 1).val; omega
  · show 0 + 1 * (j 2).val = (j 2).val; omega

theorem zero2 : (![0, 0] : Fin 2 → Nat) = fun _ => 0 := funext fun a => by fin_cases a <;> rfl

abbrev rAcc : Rect S512x2048 := Rect.unit (s := S512x2048) ![0, 0] S512x2048.size inb_S512x2048_S512x2048_0_0

theorem read_acc (f : (cc0_scratch1 : Ref sig .tc).ty.Contents (Elt F)) :
    (Memref.whole cc0_scratch1 : Memref sig .tc .vmem S512x2048 .i32).view.readAt (Elt F) rAcc.toLoadRect f = f :=
  Memref.readAt_unit_zero (Elt F) cc0_scratch1 zero2 _ f
theorem write_acc (f w : (cc0_scratch1 : Ref sig .tc).ty.Contents (Elt F)) :
    ((Memref.whole cc0_scratch1 : Memref sig .tc .vmem S512x2048 .i32).access rAcc).write (Elt F) f w Finset.univ = w :=
  Memref.write_access_unit_zero_univ (Elt F) cc0_scratch1 zero2 _ f w
theorem write_out (f w : (cc0_stg4_0 : Ref sig .tc).ty.Contents (Elt F)) :
    ((Memref.whole cc0_stg4_0 : Memref sig .tc .vmem S512x2048 .f32).access rAcc).write (Elt F) f w Finset.univ = w :=
  Memref.write_access_unit_zero_univ (Elt F) cc0_stg4_0 zero2 _ f w

/-- A scale has one index. -/
theorem one_idx (i j : S1.Idx) : i = j := funext fun a => Fin.ext (by
  have h : ∀ k : S1.Idx, (k a).val = 0 := fun k => by
    have := (k a).isLt
    have h1 : S1.size a = 1 := by fin_cases a; rfl
    omega
  rw [h i, h j])

/-! ## The step -/

/-- The accumulator of device `c`. -/
def accPts (c : Dev nD) (f : IVec S512x2048 32) : sProp 𝕄 := ((c : Thread nD τ).loc cc0_scratch1) ↦{fullShare} f
/-- The staged weight of device `c`. -/
def wPts (c : Dev nD) : sProp 𝕄 := ((c : Thread nD τ).loc cc0_stg1_0) ↦{fullShare} Wt c

/-- Before the waits for the blocks received at the places `l`; those received at `d` are added. -/
def gatherSt (c : Dev nD) (l d : List (Fin 7)) : sProp 𝕄 :=
  iprop(gotSt X c l d ∗ accPts c (accAt X Wt c d) ∗ wPts Wt c)

variable (K : Dev nD × Fin 16 → ℕ)

/-- The wait for the block received at place `r`, and its product added to the accumulator. -/
theorem gather_step {α : Type} {Q : α → sProp 𝕄} {k : PUnit → Prog (TpuEff nD τ sig (Elt F) Λ₀ .tc) α}
    (c : Dev nD) (r : Fin 7) (l d : List (Fin 7))
    (pay : Vec F S512x2048 .i32 → Vec F S1x512x512 .i8 → Vec F S512x2048 .i8 → IVec S512x2048 32)
    (hpay : ∀ v u z, pay v u z = k0_pay4 v u z)
    {sR : DmaSem sig} (hsR : sR = recvS (src c r)) {sp sp' : Space} {s s' : Shape} {e e' : EltTy}
    {vs : Memref sig .tc sp' s' e'} {dst : Memref sig .tc sp s e}
    {hsrc : vs.view.WordExact} {hdst : dst.view.WordExact} (hN : dst.view.dmaCredit = N)
    {offs : Fin 3 → Nat} {hs : ∀ a, offs a + S1x512x512.size a ≤ S8x512x512.size a} (hos : offs = ![(src c r).val, 0, 0])
    {offw : Fin 2 → Nat} {hw : ∀ a, offw a + S512x2048.size a ≤ S4096x2048.size a} (how : offw = ![512 * (src c r).val, 0])
    {l₁ l₂ l₃ l₄ st₁ st₂} :
    iprop(records X K ∗ gatherSt X Wt c (r :: l) d)
      ⊢ iprop((gatherSt X Wt c l (r :: d) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 sR vs dst hsrc hdst) fun _ =>
              .op (.load (Memref.whole cc0_scratch1 : Memref sig .tc .vmem S512x2048 .i32) rAcc.toLoadRect l₁) fun v =>
              .op (.load (Memref.whole cc0_scratch0 : Memref sig .tc .vmem S8x512x512 .i8) (Rect.unit (s := S8x512x512) offs S1x512x512.size hs).toLoadRect l₂) fun u =>
              .op (.load (Memref.whole cc0_stg1_0 : Memref sig .tc .vmem S4096x2048 .i8) (Rect.unit (s := S4096x2048) offw S512x2048.size hw).toLoadRect l₃) fun z =>
              .op (.load (Memref.whole cc0_scratch1 : Memref sig .tc .vmem S512x2048 .i32) rAcc.toLoadRect l₄) fun _ =>
              .op (.store (Memref.whole cc0_scratch1 : Memref sig .tc .vmem S512x2048 .i32) rAcc (pay v u z) Finset.univ st₁ st₂) k) Q) := by
  subst hos; subst how
  have hpay : pay = k0_pay4 (F := F) := funext fun v => funext fun u => funext fun z => hpay v u z
  subst hpay
  unfold gatherSt
  iintro ⟨#HR, Hg, Ha, Hw⟩ Hk
  iapply (got_step X K c r l d hsR hN) $$ [Hg]
  · isplitr; · iexact HR
    iexact Hg
  iintro Hg
  unfold accPts wPts gotSt
  rw [bigSepL_cons']
  icases Hg with ⟨HO, Hl, ⟨Hs, Hz⟩, Hd⟩
  unfold slotPts
  iapply (wp_load 𝒱₀ (c : Thread nD τ) none Set.univ (m := Memref.whole cc0_scratch1) (Finset.subset_univ _)) $$ Ha; iintro Ha
  rw [read_acc]
  iapply (wp_load_rect 𝒱₀ (c : Thread nD τ) none Set.univ (m := Memref.whole cc0_scratch0)
    (r := Rect.unit (s := S8x512x512) ![(src c r).val, 0, 0] S1x512x512.size hs)
    ((View.set_slice_whole cc0_scratch0 _).trans (slot_rect (src c r) hs)).subset) $$ Hs; iintro Hs
  rw [read_slot]
  iapply (wp_load_rect 𝒱₀ (c : Thread nD τ) none Set.univ (m := Memref.whole cc0_stg1_0)
    (r := Rect.unit (s := S4096x2048) ![512 * (src c r).val, 0] S512x2048.size hw) (Finset.subset_univ _)) $$ Hw; iintro Hw
  rw [read_rowsW]
  iapply (wp_load 𝒱₀ (c : Thread nD τ) none Set.univ (m := Memref.whole cc0_scratch1) (Finset.subset_univ _)) $$ Ha; iintro Ha
  iapply (wp_store 𝒱₀ (c : Thread nD τ) none Set.univ (m := Memref.whole cc0_scratch1) (r := rAcc) (Mk := Finset.univ) (Finset.subset_univ _)) $$ Ha; iintro Ha
  rw [write_acc]
  iapply Hk
  isplitl [HO Hl Hs Hz Hd]
  · isplitl [HO]; · iexact HO
    isplitl [Hl]; · iexact Hl
    isplitl [Hs Hz]
    · isplitl [Hs]; · iexact Hs
      iexact Hz
    iexact Hd
  isplitl [Ha]; · iexact Ha
  iexact Hw

end Cert.Exchange
-- ==== Proof.State.lean ====
/-
# A device before and after its kernel call

The buffers' contents by which the launch is described, the ghost state a device starts from, and how its two
buffers that take part in the exchange are cut into blocks and put together again.
-/
module

public import proofs.«01_k».proof.Proof.Compute
public import proofs.«01_k».proof.Proof.Gen.KernelIdeal.Points

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cutting and joining the buffers -/

/-- The gather buffer is its eight slots: the device's own, and one for each peer. -/
theorem cut_gather (c : Dev nD) (f : (cc0_scratch0 : Ref sig .tc).ty.Contents (Elt F)) :
    (((c : Thread nD τ).loc cc0_scratch0) ↦{fullShare} f : sProp 𝕄)
      = iprop(slotPts c c f ∗ bigSepL places fun r => slotPts c (tgt c r) f) := by
  rw [← bigSep_peers c fun s => slotPts c s f]
  unfold slotPts
  rw [← pointsTo_biUnion Finset.univ (ℓ := (c : Thread nD τ).loc cc0_scratch0) slotSet fun s _ s' _ h => slotSet_disjoint s s' h]
  exact congrArg (fun S : Finset (Idx ((c : Thread nD τ).loc cc0_scratch0)) =>
    ((((c : Thread nD τ).loc cc0_scratch0) ↦[S]{fullShare} f : sProp 𝕄))) slotSet_cover.symm

theorem cut_gather_ex (c : Dev nD) (f : (cc0_scratch0 : Ref sig .tc).ty.Contents (Elt F)) :
    (((c : Thread nD τ).loc cc0_scratch0) ↦{fullShare} f : sProp 𝕄)
      ⊢ iprop((∃ f, slotPts c c f) ∗ bigSepL places fun r => iprop(∃ f, slotPts c (tgt c r) f)) := by
  have h : (bigSepL places fun r => slotPts (F := F) c (tgt c r) f) ⊢ bigSepL places fun r => iprop(∃ f, slotPts (F := F) c (tgt c r) f) :=
    bigSepL_mono fun r _ => by iintro H; iexists f; iexact H
  rw [cut_gather]
  iintro ⟨Hc, Hl⟩
  isplitl [Hc]; · iexists f; iexact Hc
  iapply h; iexact Hl

/-- The slots put together again, whatever each holds. -/
theorem join_slots (c : Dev nD) (fs : Dev nD → (cc0_scratch0 : Ref sig .tc).ty.Contents (Elt F)) :
    (bigSep Finset.univ fun s => slotPts (F := F) c s (fs s))
      ⊢ (iprop(∃ f : Buf (Elt F) ((c : Thread nD τ).loc cc0_scratch0), ((c : Thread nD τ).loc cc0_scratch0) ↦{fullShare} f) : sProp 𝕄) := by
  unfold slotPts
  refine (pointsTo_biUnion_join (ℓ := (c : Thread nD τ).loc cc0_scratch0) Finset.univ slotSet fs (fs c)
    fun s _ s' _ h => slotSet_disjoint s s' h).trans ?_
  have e : (Finset.univ.biUnion slotSet : Finset (Idx ((c : Thread nD τ).loc cc0_scratch0))) = Finset.univ := slotSet_cover
  rw [e]
  iintro ⟨%g, -, H⟩
  iexists g; iexact H

/-- The slots put together again, the peers' holding what arrived. -/
theorem join_gather (X : Dev nD → (cc0_stg0_0 : Ref sig .tc).ty.Contents (Elt F)) (c : Dev nD) :
    iprop((∃ f, slotPts (F := F) c c f) ∗ bigSepL placesRev fun r => slotPts c (src c r) (landed X c))
      ⊢ (iprop(∃ f : Buf (Elt F) ((c : Thread nD τ).loc cc0_scratch0), ((c : Thread nD τ).loc cc0_scratch0) ↦{fullShare} f) : sProp 𝕄) := by
  have e : ∀ f, iprop(slotPts (F := F) c c f ∗ bigSepL placesRev fun r => slotPts c (src c r) (landed X c))
      = bigSep Finset.univ fun s => slotPts (F := F) c s (if s = c then f else landed X c) := fun f => by
    have e' : (fun r => slotPts (F := F) c (src c r) (landed X c)) = fun r => slotPts c (src c r) (if src c r = c then f else landed X c) :=
      funext fun r => by rw [if_neg (tgt_ne c (mir r))]
    rw [bigSep_srcs_rev c, if_pos rfl, e']
  iintro ⟨⟨%f, Hc⟩, Hl⟩
  iapply (join_slots c fun s => if s = c then f else landed X c)
  rw [← e f]
  isplitl [Hc]; · iexact Hc
  iexact Hl

/-- The staged `x` is its eight row blocks. -/
theorem cut_x (X : Dev nD → (cc0_stg0_0 : Ref sig .tc).ty.Contents (Elt F)) (c : Dev nD) :
    (((c : Thread nD τ).loc cc0_stg0_0) ↦{fullShare} X c : sProp 𝕄)
      = iprop(rowPts X c c ∗ bigSepL places fun r => rowPts X c (tgt c r)) := by
  rw [← bigSep_peers c fun t => rowPts X c t]
  unfold rowPts
  rw [← pointsTo_biUnion Finset.univ (ℓ := (c : Thread nD τ).loc cc0_stg0_0) rowSet fun s _ s' _ h => rowSet_disjoint s s' h]
  exact congrArg (fun S : Finset (Idx ((c : Thread nD τ).loc cc0_stg0_0)) =>
    ((((c : Thread nD τ).loc cc0_stg0_0) ↦[S]{fullShare} X c : sProp 𝕄))) rowSet_cover.symm

/-! ## The contents -/

variable (m : (ℓ : Loc nD τ sig) → Buf (Elt F) ℓ) (ρ : Dev nD → PrngReg)

/-- The memory at launch: any contents, semaphores at zero, any generator registers. -/
def s₀ : MemSt nD τ sig (Elt F) := ⟨m, fun _ => 0, ρ⟩

/-- Each device's operands, as its kernel call stages them: `x`, the weight, the two scales. -/
def opX (c : Dev nD) : (cc0_stg0_0 : Ref sig .tc).ty.Contents (Elt F) :=
  (win0_0.blk (0 : Fin 1)).view.read (Elt F) ((s₀ m ρ).mem ((c : Thread nD τ).loc main_arg0))
def opW (c : Dev nD) : (cc0_stg1_0 : Ref sig .tc).ty.Contents (Elt F) :=
  (win0_1.blk (0 : Fin 1)).view.read (Elt F) ((s₀ m ρ).mem ((c : Thread nD τ).loc main_arg1))
def opA (c : Dev nD) : (cc0_stg2_0 : Ref sig .tc).ty.Contents (Elt F) :=
  (win0_2.blk (0 : Fin 1)).view.read (Elt F) ((s₀ m ρ).mem ((c : Thread nD τ).loc main_arg2))
def opB (c : Dev nD) : (cc0_stg3_0 : Ref sig .tc).ty.Contents (Elt F) :=
  (win0_3.blk (0 : Fin 1)).view.read (Elt F) ((s₀ m ρ).mem ((c : Thread nD τ).loc main_arg3))

/-- The accumulator of device `c` once every block is in. -/
def total (c : Dev nD) : IVec S512x2048 32 := accAt (opX m ρ) (opW m ρ) c placesRev
/-- The kernel's result on device `c`. -/
def outAt (c : Dev nD) : (cc0_stg4_0 : Ref sig .tc).ty.Contents (Elt F) :=
  k0_pay1 (scalar (opA m ρ c)) (scalar (opB m ρ c)) (total m ρ c)

/-! ## What a device starts from and ends with -/

/-- A device's ghost state: what all know, its positions at its own semaphores, and its rights to the payments it makes. -/
def ghost (K : Dev nD × Fin 16 → ℕ) (c : Dev nD) : sProp 𝕄 :=
  iprop(records (opX m ρ) K
    ∗ atPos ER (barCell c) 0 ∅ 0
    ∗ (bigSepL places fun r => atPos ER (sendCell c r) 0 ∅ 0)
    ∗ (bigSep Finset.univ fun s => atPos ER (recvCell c s) 0 ∅ 0)
    ∗ (bigSepL places fun r => dutyTok ER (barCell (tgt c r)) 0 (mir r))
    ∗ bigSepL places fun r => iprop(dutyTok ER (sendCell c r) 0 0 ∗ dutyTok ER (recvCell (tgt c r) c) 0 0))

/-- That at some names, and the credit for what its peers owe it, and the levels. -/
def start (c : Dev nD) : sProp 𝕄 :=
  iprop((∃ K, ghost m ρ K c) ∗ cred (tallyAt (barCell c) () 7)
    ∗ (bigSepL places fun r => cred (tallyAt (recvCell c (src c r)) () N)) ∗ levAts L lv)

/-- The scratch buffers, holding anything. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- The semaphores, at rest. -/
def atRest (c : Dev nD) : sProp 𝕄 :=
  iprop(semVal (barCell c) 0 ∗ (bigSepL places fun r => semVal (sendCell c r) 0) ∗ bigSep Finset.univ fun s => semVal (recvCell c s) 0)

def Φ₀ (c : Dev nD) : sProp 𝕄 := iprop(start m ρ c ∗ scratch (F := F) c)
def Φ₁ (c : Dev nD) : sProp 𝕄 := iprop(atRest (F := F) c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => opX m ρ c
    | ⟨1, _⟩ => opW m ρ c
    | ⟨2, _⟩ => opA m ρ c
    | ⟨3, _⟩ => opB m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem owns_whole_eq (c : Dev nD) (b : Ref sig .tc) (V : b.ty.Contents (Elt F)) :
    (owns (Ix := Unit) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

end Cert.Exchange
-- ==== Proof.Phases.lean ====
/-
# From one phase of the kernel to the next

The kernel signals its peers, meets them at the barrier, starts the copies, adds the products of the blocks as they
arrive, and waits for its own copies to have left. Here: what one phase leaves, arranged as the next one takes it; and
the offsets and device numbers of the program, place by place.
-/
module

public import proofs.«01_k».proof.Proof.State

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Offsets -/

theorem src_val (c : Dev nD) (r : Fin 7) : (src c r).val = (c.val + 7 - r.val) % 8 := by revert c r; decide
theorem tgt_val (c : Dev nD) (r : Fin 7) : (tgt c r).val = (c.val + r.val + 1) % 8 := by
  show (c.val + (r.val + 1)) % 8 = _; rw [Nat.add_assoc]

theorem off3_at (c : Dev nD) (r : Fin 7) : k0_off3 c (BitVec.ofNat 32 (1 + r.val)) = ![512 * (tgt c r).val, 0] := by
  rw [k0_off3_eq, tgt_val]
theorem off6_at (c : Dev nD) (r : Fin 7) : k0_off6 c (BitVec.ofNat 32 (1 + r.val)) = ![(src c r).val] := by
  rw [k0_off6_eq, src_val]
theorem off8_at (c : Dev nD) (r : Fin 7) : k0_off8 c (BitVec.ofNat 32 (1 + r.val)) = ![(src c r).val, 0, 0] := by
  rw [k0_off8_eq, src_val]
theorem off9_at (c : Dev nD) (r : Fin 7) : k0_off9 c (BitVec.ofNat 32 (1 + r.val)) = ![512 * (src c r).val, 0] := by
  rw [k0_off9_eq, src_val]

theorem one_int : (1#32 : BitVec 32).toInt = ((1 : ℕ) : Int) := by decide
theorem seven_int : (7#32 : BitVec 32).toInt = ((7 : ℕ) : Int) := by decide

theorem zero1 : (![0] : Fin 1 → Nat) = fun _ => 0 := funext fun a => by fin_cases a; rfl
theorem read_scale2 (h) (f : (cc0_stg2_0 : Ref sig .tc).ty.Contents (Elt F)) :
    (Memref.whole cc0_stg2_0 : Memref sig .tc .smem S1 .f32).view.readAt (Elt F) (Rect.unit (s := S1) ![0] S1.size h).toLoadRect f = f :=
  Memref.readAt_unit_zero (Elt F) cc0_stg2_0 zero1 _ f
theorem read_scale3 (h) (f : (cc0_stg3_0 : Ref sig .tc).ty.Contents (Elt F)) :
    (Memref.whole cc0_stg3_0 : Memref sig .tc .smem S1 .f32).view.readAt (Elt F) (Rect.unit (s := S1) ![0] S1.size h).toLoadRect f = f :=
  Memref.readAt_unit_zero (Elt F) cc0_stg3_0 zero1 _ f

/-- The device's own block of `x` and of the weight, as the program reads them. -/
theorem own_rect (c : Dev nD) (h) : (Rect.unit (s := S4096x512) (k0_off4 c) S512x512.size h).set = rowSet c := by
  have e := k0_off4_eq c
  generalize k0_off4 c = off at e h
  subst e; exact row_rect c h
theorem own_x (c : Dev nD) (h) (f : (cc0_stg0_0 : Ref sig .tc).ty.Contents (Elt F)) :
    ((Memref.whole cc0_stg0_0 : Memref sig .tc .vmem S4096x512 .i8).access (Rect.unit (s := S4096x512) (k0_off4 c) S512x512.size h)).read (Elt F) f
      = rowsX c f := by
  have e := k0_off4_eq c
  generalize k0_off4 c = off at e h
  subst e; exact read_rowsX c h f
theorem own_w (c : Dev nD) (h) (f : (cc0_stg1_0 : Ref sig .tc).ty.Contents (Elt F)) :
    ((Memref.whole cc0_stg1_0 : Memref sig .tc .vmem S4096x2048 .i8).access (Rect.unit (s := S4096x2048) (k0_off5 c) S512x2048.size h)).read (Elt F) f
      = rowsW c f := by
  have e := k0_off5_eq c
  generalize k0_off5 c = off at e h
  subst e; exact read_rowsW c h f

/-- Every slot and every row block has the same credit. -/
theorem slot_credit (off : Fin 3 → Nat) (h) : (slotView off h).view.dmaCredit = N := rfl
theorem row_credit (off : Fin 2 → Nat) (h) : (rowView off h).view.dmaCredit = N := rfl

/-! ## Lists -/

/-- A reversed list of pairs is a pair of lists. -/
theorem rev_sep {M : Type} [URA M] (Φ Ψ : Fin 7 → sProp M) :
    (bigSepL placesRev fun r => iprop(Φ r ∗ Ψ r)) = iprop(bigSepL placesRev Φ ∗ bigSepL placesRev Ψ) := by
  rw [list_rev, places_sep, list_rev, list_rev]

/-! ## The phases -/

variable (X : Dev nD → (cc0_stg0_0 : Ref sig .tc).ty.Contents (Elt F)) (Wt : Dev nD → (cc0_stg1_0 : Ref sig .tc).ty.Contents (Elt F))
  (c : Dev nD)

theorem enter_signals :
    iprop(owesE c (O₀ c) ∗ (bigSepL places fun r => dutyTok ER (barCell (tgt c r)) 0 (mir r))
        ∗ bigSepL places fun r => iprop(∃ f, slotPts c (tgt c r) f)) ⊢ sigSt (F := F) c places := by
  unfold sigSt
  rw [places_sep (fun r => dutyTok ER (barCell (tgt c r)) 0 (mir r)) fun r => iprop(∃ f, slotPts (F := F) c (tgt c r) f)]
  exact .rfl

theorem leave_signals : sigSt (F := F) c [] ⊢ owesE c (owedSend c places) := by
  unfold sigSt
  iintro ⟨H, -⟩
  iexact H

theorem enter_sends :
    iprop(owesE c (owedSend c places)
        ∗ (bigSepL places fun r => iprop(dutyTok ER (sendCell c r) 0 0 ∗ dutyTok ER (recvCell (tgt c r) c) 0 0))
        ∗ (bigSepL places fun r => rowPts X c (tgt c r)) ∗ bigSepL places (barPay c))
      ⊢ sendSt (F := F) X c places [] := by
  unfold sendSt
  rw [places_sep (fun r => iprop(dutyTok ER (sendCell c r) 0 0 ∗ dutyTok ER (recvCell (tgt c r) c) 0 0))
    fun r => iprop(rowPts (F := F) X c (tgt c r) ∗ barPay c r), places_sep (fun r => rowPts (F := F) X c (tgt c r)) fun r => barPay c r]
  iintro ⟨HO, Ht, Hx, Hb⟩
  isplitl [HO]; · iexact HO
  isplitl [Ht Hx Hb]
  · isplitl [Ht]; · iexact Ht
    isplitl [Hx]; · iexact Hx
    iexact Hb
  iempintro

theorem leave_sends :
    sendSt (F := F) X c [] placesRev ⊢ iprop(owesE c 0 ∗ bigSepL places fun r => cred (tallyAt (sendCell c r) () N)) := by
  unfold sendSt
  rw [list_rev]
  iintro ⟨HO, -, Hc⟩
  isplitl [HO]; · iexact HO
  iexact Hc

theorem enter_gather :
    iprop(owesE c 0 ∗ (bigSepL places fun r => cred (tallyAt (recvCell c (src c r)) () N))
        ∗ (bigSepL places fun r => atPos ER (recvCell c (src c r)) 0 ∅ 0) ∗ accPts c (accAt X Wt c []) ∗ wPts Wt c)
      ⊢ gatherSt (F := F) X Wt c places [] := by
  unfold gatherSt gotSt
  rw [places_sep (fun r => cred (tallyAt (recvCell c (src c r)) () N)) fun r => atPos ER (recvCell c (src c r)) 0 ∅ 0]
  iintro ⟨HO, Hc, Ha, Hacc, Hw⟩
  isplitl [HO Hc Ha]
  · isplitl [HO]; · iexact HO
    isplitl [Hc Ha]
    · isplitl [Hc]; · iexact Hc
      iexact Ha
    iempintro
  isplitl [Hacc]; · iexact Hacc
  iexact Hw

theorem leave_gather :
    gatherSt (F := F) X Wt c [] placesRev
      ⊢ iprop(owesE c 0 ∗ (bigSepL placesRev fun r => slotPts c (src c r) (landed X c))
        ∗ (bigSepL places fun r => semVal (recvCell c (src c r)) 0) ∗ accPts c (accAt X Wt c placesRev) ∗ wPts Wt c) := by
  unfold gatherSt gotSt
  rw [rev_sep (fun r => slotPts c (src c r) (landed X c)) fun r => semVal (recvCell c (src c r)) 0,
    list_rev fun r => semVal (recvCell c (src c r)) 0]
  iintro ⟨⟨HO, -, Hs, Hz⟩, Hacc, Hw⟩
  isplitl [HO]; · iexact HO
  isplitl [Hs]; · iexact Hs
  isplitl [Hz]; · iexact Hz
  isplitl [Hacc]; · iexact Hacc
  iexact Hw

theorem enter_left :
    iprop(owesE c 0 ∗ (bigSepL places fun r => cred (tallyAt (sendCell c r) () N))
        ∗ bigSepL places fun r => atPos ER (sendCell c r) 0 ∅ 0)
      ⊢ leftSt (F := F) X c places [] := by
  unfold leftSt
  rw [places_sep (fun r => cred (tallyAt (sendCell c r) () N)) fun r => atPos ER (sendCell c r) 0 ∅ 0]
  iintro ⟨HO, Hc, Ha⟩
  isplitl [HO]; · iexact HO
  isplitl [Hc Ha]
  · isplitl [Hc]; · iexact Hc
    iexact Ha
  iempintro

theorem leave_left :
    leftSt (F := F) X c [] placesRev
      ⊢ iprop(owesE c 0 ∗ (bigSepL places fun r => rowPts X c (tgt c r)) ∗ bigSepL places fun r => semVal (sendCell c r) 0) := by
  unfold leftSt
  rw [list_rev, places_sep (fun r => rowPts X c (tgt c r)) fun r => semVal (sendCell c r) 0]
  iintro ⟨HO, -, Hx, Hz⟩
  isplitl [HO]; · iexact HO
  isplitl [Hx]; · iexact Hx
  iexact Hz

end Cert.Exchange
-- ==== Proof.Body.lean ====
/-
# The kernel body on one device

The body is followed once, at a symbolic device, operation by operation, through the steps proved before.
-/
module

public import proofs.«01_k».proof.Proof.Phases

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A staging buffer holding `V`. -/
abbrev stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

/-- What the body starts from: the device's share of the exchange, and its operands staged. -/
def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

/-- What it ends with: the semaphores at rest, the operands as they were, the result staged. -/
def bodyPost (c : Dev nD) : sProp 𝕄 :=
  iprop(Φ₁ c ∗ (dats m ρ 0 c).owesAt () t₀.succ
    ∗ stg c cc0_stg0_0 (opX m ρ c) ∗ stg c cc0_stg1_0 (opW m ρ c) ∗ stg c cc0_stg2_0 (opA m ρ c) ∗ stg c cc0_stg3_0 (opB m ρ c)
    ∗ stg c cc0_stg4_0 (outAt m ρ c))

set_option maxHeartbeats 4000000 in
/-- The body, from `bodyPre` to `bodyPost`. -/
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ (bodyAt0 (F := F) t₀) Kt := by
  show _ ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) cc0_scratch2 cc0_scratch3) Kt
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel
    k0_part9_skel k0_part10_skel k0_part11_skel
  simp only [semSignalWord, semWaitWord, smemLoad, smemLoadElt, Prog.lift, Prog.bind_op, Prog.bind_ret, Prog.pure_eq_ret,
    Prog.bind_assoc, wp_deviceId]
  unfold bodyPre Φ₀ start ghost scratch
  iintro ⟨⟨⟨⟨⟨%K, #HR, HatB, HatS, HatV, HtB, HtC⟩, HcB, HcV, #Hlev⟩, ⟨%f0, Hgat⟩, ⟨%f1, Hacc⟩⟩,
    Ho, ⟨%d0, %g0, %hg0, Hx⟩, ⟨%d1, %g1, %hg1, Hw⟩, ⟨%d2, %g2, %hg2, Ha⟩, ⟨%d3, %g3, %hg3, Hb⟩, ⟨%d4, %g4, %hg4, Hout⟩⟩, Hk⟩
  have hx : g0 = opX m ρ c := by rw [hg0]; unfold Dat.before; rw [if_pos (fetch0_0 t₀)]; rfl
  have hw : g1 = opW m ρ c := by rw [hg1]; unfold Dat.before; rw [if_pos (fetch0_1 t₀)]; rfl
  have ha : g2 = opA m ρ c := by rw [hg2]; unfold Dat.before; rw [if_pos (fetch0_2 t₀)]; rfl
  have hb : g3 = opB m ρ c := by rw [hg3]; unfold Dat.before; rw [if_pos (fetch0_3 t₀)]; rfl
  subst hx hw ha hb
  unfold Dat.owesAt Pipeline.owesWithin
  icases Ho with ⟨%W, %hW, HO⟩
  rw [show (dats m ρ 0 c).owed t₀.castSucc = O₀ c from rfl]
  ihave HO := (show owes (c : Thread nD τ) (O₀ c) W ⊢ (owesE c (O₀ c) : sProp 𝕄) from by
    unfold owesE; iintro H; iexists W; iexact H) $$ HO
  -- the buffers are cut into blocks
  ihave Hg := (cut_gather_ex c f0) $$ Hgat
  icases Hg with ⟨Hown, Hslots⟩
  ihave Hx := (Entails.of_eq (cut_x (opX m ρ) c)) $$ Hx
  icases Hx with ⟨Hxc, Hxs⟩
  -- the signals
  ihave Hsig := (enter_signals c) $$ [HO HtB Hslots]
  · isplitl [HO]; · iexact HO
    isplitl [HtB]; · iexact HtB
    iexact Hslots
  iapply (signal_step (opX m ρ) K c _ 0 [1, 2, 3, 4, 5, 6] _ (Fin.ext (k0_dev1_eq c)) one_int) $$ [Hsig]
  · isplitr; · iexact HR
    iexact Hsig
  iintro Hsig
  iapply (signal_step (opX m ρ) K c _ 1 [2, 3, 4, 5, 6] _ (Fin.ext (k0_dev2_eq c)) one_int) $$ [Hsig]
  · isplitr; · iexact HR
    iexact Hsig
  iintro Hsig
  iapply (signal_step (opX m ρ) K c _ 2 [3, 4, 5, 6] _ (Fin.ext (k0_dev3_eq c)) one_int) $$ [Hsig]
  · isplitr; · iexact HR
    iexact Hsig
  iintro Hsig
  iapply (signal_step (opX m ρ) K c _ 3 [4, 5, 6] _ (Fin.ext (k0_dev4_eq c)) one_int) $$ [Hsig]
  · isplitr; · iexact HR
    iexact Hsig
  iintro Hsig
  iapply (signal_step (opX m ρ) K c _ 4 [5, 6] _ (Fin.ext (k0_dev5_eq c)) one_int) $$ [Hsig]
  · isplitr; · iexact HR
    iexact Hsig
  iintro Hsig
  iapply (signal_step (opX m ρ) K c _ 5 [6] _ (Fin.ext (k0_dev6_eq c)) one_int) $$ [Hsig]
  · isplitr; · iexact HR
    iexact Hsig
  iintro Hsig
  iapply (signal_step (opX m ρ) K c _ 6 [] _ (Fin.ext (k0_dev7_eq c)) one_int) $$ [Hsig]
  · isplitr; · iexact HR
    iexact Hsig
  iintro Hsig
  ihave HO := (leave_signals c) $$ Hsig
  -- the barrier
  iapply (barrier_step (opX m ρ) K c _ seven_int) $$ [HO HcB HatB]
  · isplitr; · iexact HR
    isplitr; · iexact Hlev
    isplitl [HO]; · iexact HO
    isplitl [HcB]; · iexact HcB
    iexact HatB
  iintro ⟨HO, Hbar, HzB⟩
  -- the copies
  ihave Hsnd := (enter_sends (opX m ρ) c) $$ [HO HtC Hxs Hbar]
  · isplitl [HO]; · iexact HO
    isplitl [HtC]; · iexact HtC
    isplitl [Hxs]; · iexact Hxs
    iexact Hbar
  iapply (send_step (opX m ρ) K c _ 0 [1, 2, 3, 4, 5, 6] [] (Fin.ext (k0_dev8_eq c)) (off3_at c 0) (k0_off2_eq c)
    (sendSem_eq 0 ![0] inb_S7_S1_0 rfl) (recvSem_eq c (k0_off1 c) (k0_off1_inb c) (k0_off1_eq c))) $$ [Hsnd]
  · isplitr; · iexact HR
    iexact Hsnd
  iintro Hsnd
  iapply (send_step (opX m ρ) K c _ 1 [2, 3, 4, 5, 6] [0] (Fin.ext (k0_dev9_eq c)) (off3_at c 1) (k0_off2_eq c)
    (sendSem_eq 1 ![1] inb_S7_S1_1 rfl) (recvSem_eq c (k0_off1 c) (k0_off1_inb c) (k0_off1_eq c))) $$ [Hsnd]
  · isplitr; · iexact HR
    iexact Hsnd
  iintro Hsnd
  iapply (send_step (opX m ρ) K c _ 2 [3, 4, 5, 6] [1, 0] (Fin.ext (k0_dev10_eq c)) (off3_at c 2) (k0_off2_eq c)
    (sendSem_eq 2 ![2] inb_S7_S1_2 rfl) (recvSem_eq c (k0_off1 c) (k0_off1_inb c) (k0_off1_eq c))) $$ [Hsnd]
  · isplitr; · iexact HR
    iexact Hsnd
  iintro Hsnd
  iapply (send_step (opX m ρ) K c _ 3 [4, 5, 6] [2, 1, 0] (Fin.ext (k0_dev11_eq c)) (off3_at c 3) (k0_off2_eq c)
    (sendSem_eq 3 ![3] inb_S7_S1_3 rfl) (recvSem_eq c (k0_off1 c) (k0_off1_inb c) (k0_off1_eq c))) $$ [Hsnd]
  · isplitr; · iexact HR
    iexact Hsnd
  iintro Hsnd
  iapply (send_step (opX m ρ) K c _ 4 [5, 6] [3, 2, 1, 0] (Fin.ext (k0_dev12_eq c)) (off3_at c 4) (k0_off2_eq c)
    (sendSem_eq 4 ![4] inb_S7_S1_4 rfl) (recvSem_eq c (k0_off1 c) (k0_off1_inb c) (k0_off1_eq c))) $$ [Hsnd]
  · isplitr; · iexact HR
    iexact Hsnd
  iintro Hsnd
  iapply (send_step (opX m ρ) K c _ 5 [6] [4, 3, 2, 1, 0] (Fin.ext (k0_dev13_eq c)) (off3_at c 5) (k0_off2_eq c)
    (sendSem_eq 5 ![5] inb_S7_S1_5 rfl) (recvSem_eq c (k0_off1 c) (k0_off1_inb c) (k0_off1_eq c))) $$ [Hsnd]
  · isplitr; · iexact HR
    iexact Hsnd
  iintro Hsnd
  iapply (send_step (opX m ρ) K c _ 6 [] [5, 4, 3, 2, 1, 0] (Fin.ext (k0_dev14_eq c)) (off3_at c 6) (k0_off2_eq c)
    (sendSem_eq 6 ![6] inb_S7_S1_6 rfl) (recvSem_eq c (k0_off1 c) (k0_off1_inb c) (k0_off1_eq c))) $$ [Hsnd]
  · isplitr; · iexact HR
    iexact Hsnd
  iintro Hsnd
  ihave Hs := (leave_sends (opX m ρ) c) $$ Hsnd
  icases Hs with ⟨HO, HcS⟩
  -- the device's own block
  unfold rowPts
  iapply (wp_load_rect 𝒱₀ (c : Thread nD τ) none Set.univ (m := Memref.whole cc0_stg0_0)
    (r := Rect.unit (s := S4096x512) (k0_off4 c) S512x512.size (k0_off4_inb c))
    ((View.set_slice_whole cc0_stg0_0 _).trans (own_rect c _)).subset) $$ Hxc; iintro Hxc
  iapply (wp_load_rect 𝒱₀ (c : Thread nD τ) none Set.univ (m := Memref.whole cc0_stg1_0)
    (r := Rect.unit (s := S4096x2048) (k0_off5 c) S512x2048.size (k0_off5_inb c)) (Finset.subset_univ _)) $$ Hw; iintro Hw
  rw [own_x, own_w]
  iapply (wp_load 𝒱₀ (c : Thread nD τ) none Set.univ (m := Memref.whole cc0_scratch1) (Finset.subset_univ _)) $$ Hacc; iintro Hacc
  iapply (wp_store 𝒱₀ (c : Thread nD τ) none Set.univ (m := Memref.whole cc0_scratch1) (r := rAcc) (Mk := Finset.univ) (Finset.subset_univ _)) $$ Hacc; iintro Hacc
  rw [write_acc]
  -- the others' blocks
  ihave HatV := (Entails.of_eq (bigSep_srcs c fun s => atPos ER (recvCell c s) 0 ∅ 0)) $$ HatV
  icases HatV with ⟨HatC, HatV⟩
  ihave Hg := (enter_gather (opX m ρ) (opW m ρ) c) $$ [HO HcV HatV Hacc Hw]
  · isplitl [HO]; · iexact HO
    isplitl [HcV]; · iexact HcV
    isplitl [HatV]; · iexact HatV
    isplitl [Hacc]; · unfold accPts; iexact Hacc
    unfold wPts; iexact Hw
  iapply (gather_step (opX m ρ) (opW m ρ) K c 0 [1, 2, 3, 4, 5, 6] [] (k0_pay4) (fun _ _ _ => rfl)
    (recvSem_eq (src c 0) (k0_off6 c 1#32) (k0_off6_inb c 0) (off6_at c 0)) (slot_credit (k0_off7 c 1#32) (k0_off7_inb c 0)) (off8_at c 0) (off9_at c 0)) $$ [Hg]
  · isplitr; · iexact HR
    iexact Hg
  iintro Hg
  iapply (gather_step (opX m ρ) (opW m ρ) K c 1 [2, 3, 4, 5, 6] [0] (k0_pay5) (fun _ _ _ => rfl)
    (recvSem_eq (src c 1) (k0_off6 c 2#32) (k0_off6_inb c 1) (off6_at c 1)) (slot_credit (k0_off7 c 2#32) (k0_off7_inb c 1)) (off8_at c 1) (off9_at c 1)) $$ [Hg]
  · isplitr; · iexact HR
    iexact Hg
  iintro Hg
  iapply (gather_step (opX m ρ) (opW m ρ) K c 2 [3, 4, 5, 6] [1, 0] (k0_pay6) (fun _ _ _ => rfl)
    (recvSem_eq (src c 2) (k0_off6 c 3#32) (k0_off6_inb c 2) (off6_at c 2)) (slot_credit (k0_off7 c 3#32) (k0_off7_inb c 2)) (off8_at c 2) (off9_at c 2)) $$ [Hg]
  · isplitr; · iexact HR
    iexact Hg
  iintro Hg
  iapply (gather_step (opX m ρ) (opW m ρ) K c 3 [4, 5, 6] [2, 1, 0] (fun v u z => k0_pay8 v (k0_pay7 u) z) (fun _ _ _ => rfl)
    (recvSem_eq (src c 3) (k0_off6 c 4#32) (k0_off6_inb c 3) (off6_at c 3)) (slot_credit (k0_off7 c 4#32) (k0_off7_inb c 3)) (off8_at c 3) (off9_at c 3)) $$ [Hg]
  · isplitr; · iexact HR
    iexact Hg
  iintro Hg
  iapply (gather_step (opX m ρ) (opW m ρ) K c 4 [5, 6] [3, 2, 1, 0] (k0_pay9) (fun _ _ _ => rfl)
    (recvSem_eq (src c 4) (k0_off6 c 5#32) (k0_off6_inb c 4) (off6_at c 4)) (slot_credit (k0_off7 c 5#32) (k0_off7_inb c 4)) (off8_at c 4) (off9_at c 4)) $$ [Hg]
  · isplitr; · iexact HR
    iexact Hg
  iintro Hg
  iapply (gather_step (opX m ρ) (opW m ρ) K c 5 [6] [4, 3, 2, 1, 0] (k0_pay10) (fun _ _ _ => rfl)
    (recvSem_eq (src c 5) (k0_off6 c 6#32) (k0_off6_inb c 5) (off6_at c 5)) (slot_credit (k0_off7 c 6#32) (k0_off7_inb c 5)) (off8_at c 5) (off9_at c 5)) $$ [Hg]
  · isplitr; · iexact HR
    iexact Hg
  iintro Hg
  iapply (gather_step (opX m ρ) (opW m ρ) K c 6 [] [5, 4, 3, 2, 1, 0] (k0_pay11) (fun _ _ _ => rfl)
    (recvSem_eq (src c 6) (k0_off6 c 7#32) (k0_off6_inb c 6) (off6_at c 6)) (slot_credit (k0_off7 c 7#32) (k0_off7_inb c 6)) (off8_at c 6) (off9_at c 6)) $$ [Hg]
  · isplitr; · iexact HR
    iexact Hg
  iintro Hg
  ihave Hg := (leave_gather (opX m ρ) (opW m ρ) c) $$ Hg
  icases Hg with ⟨HO, Hslots, HzV, Hacc, Hw⟩
  -- the copies have left
  ihave Hl := (enter_left (opX m ρ) c) $$ [HO HcS HatS]
  · isplitl [HO]; · iexact HO
    isplitl [HcS]; · iexact HcS
    iexact HatS
  iapply (left_step (opX m ρ) K c 0 [1, 2, 3, 4, 5, 6] [] (sendSem_eq 0 ![0] inb_S7_S1_0 rfl) (row_credit (k0_off3 c 1#32) (k0_off3_inb c 0))) $$ [Hl]
  · isplitr; · iexact HR
    iexact Hl
  iintro Hl
  iapply (left_step (opX m ρ) K c 1 [2, 3, 4, 5, 6] [0] (sendSem_eq 1 ![1] inb_S7_S1_1 rfl) (row_credit (k0_off3 c 2#32) (k0_off3_inb c 1))) $$ [Hl]
  · isplitr; · iexact HR
    iexact Hl
  iintro Hl
  iapply (left_step (opX m ρ) K c 2 [3, 4, 5, 6] [1, 0] (sendSem_eq 2 ![2] inb_S7_S1_2 rfl) (row_credit (k0_off3 c 3#32) (k0_off3_inb c 2))) $$ [Hl]
  · isplitr; · iexact HR
    iexact Hl
  iintro Hl
  iapply (left_step (opX m ρ) K c 3 [4, 5, 6] [2, 1, 0] (sendSem_eq 3 ![3] inb_S7_S1_3 rfl) (row_credit (k0_off3 c 4#32) (k0_off3_inb c 3))) $$ [Hl]
  · isplitr; · iexact HR
    iexact Hl
  iintro Hl
  iapply (left_step (opX m ρ) K c 4 [5, 6] [3, 2, 1, 0] (sendSem_eq 4 ![4] inb_S7_S1_4 rfl) (row_credit (k0_off3 c 5#32) (k0_off3_inb c 4))) $$ [Hl]
  · isplitr; · iexact HR
    iexact Hl
  iintro Hl
  iapply (left_step (opX m ρ) K c 5 [6] [4, 3, 2, 1, 0] (sendSem_eq 5 ![5] inb_S7_S1_5 rfl) (row_credit (k0_off3 c 6#32) (k0_off3_inb c 5))) $$ [Hl]
  · isplitr; · iexact HR
    iexact Hl
  iintro Hl
  iapply (left_step (opX m ρ) K c 6 [] [5, 4, 3, 2, 1, 0] (sendSem_eq 6 ![6] inb_S7_S1_6 rfl) (row_credit (k0_off3 c 7#32) (k0_off3_inb c 6))) $$ [Hl]
  · isplitr; · iexact HR
    iexact Hl
  iintro Hl
  ihave Hl := (leave_left (opX m ρ) c) $$ Hl
  icases Hl with ⟨HO, Hxs, HzS⟩
  imod (self_close (opX m ρ) K c) $$ [HatC] with HzC
  · isplitr; · iexact HR
    iexact HatC
  -- the result
  unfold accPts wPts
  iapply (wp_load 𝒱₀ (c : Thread nD τ) none Set.univ (m := Memref.whole cc0_stg2_0) (Finset.subset_univ _)) $$ Ha; iintro Ha
  rw [read_scale2]
  iapply (wp_load 𝒱₀ (c : Thread nD τ) none Set.univ (m := Memref.whole cc0_stg3_0) (Finset.subset_univ _)) $$ Hb; iintro Hb
  rw [read_scale3]
  iapply (wp_load 𝒱₀ (c : Thread nD τ) none Set.univ (m := Memref.whole cc0_scratch1) (Finset.subset_univ _)) $$ Hacc; iintro Hacc
  rw [read_acc]
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0) (r := rAcc) (Mk := Finset.univ) (Finset.subset_univ _)) $$ Hout; iintro Hout
  rw [write_out, wp_ret]; imodintro
  iapply Hk
  unfold bodyPost Φ₁ atRest scratch Dat.owesAt Pipeline.owesWithin
  rw [show (dats m ρ 0 c).owed t₀.succ = 0 from rfl, bigSep_srcs c fun s => semVal (recvCell c s) 0]
  isplitl [HzB HzS HzV HzC Hown Hslots Hacc]
  · isplitl [HzB HzS HzV HzC]
    · isplitl [HzB]; · iexact HzB
      isplitl [HzS]; · iexact HzS
      isplitl [HzC]; · iexact HzC
      iexact HzV
    isplitl [Hown Hslots]
    · iapply (join_gather (opX m ρ) c)
      isplitl [Hown]; · iexact Hown
      iexact Hslots
    iexists _; iexact Hacc
  isplitl [HO]
  · unfold owesE
    icases HO with ⟨%W', HO⟩
    iexists W'
    isplitr; · ipureintro; exact fun _ _ => Or.inl trivial
    iexact HO
  isplitl [Hxc Hxs]
  · iexists _; isplitr; · (ipureintro; rfl)
    rw [cut_x (opX m ρ) c]
    isplitl [Hxc]; · unfold rowPts; iexact Hxc
    iexact Hxs
  isplitl [Hw]
  · iexists _; isplitr; · (ipureintro; rfl)
    iexact Hw
  isplitl [Ha]
  · iexists _; isplitr; · (ipureintro; rfl)
    iexact Ha
  isplitl [Hb]
  · iexists _; isplitr; · (ipureintro; rfl)
    iexact Hb
  iexists _; isplitr; · (ipureintro; rfl)
  iexact Hout

set_option maxHeartbeats 1000000 in
/-- The library's obligation for the body. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ (c : Thread nD τ) none) Set.univ (bodyAt0 (F := F) t₀) (fun _ => bodyPost m ρ c)
  iintro H
  iapply (sound_body m ρ c fun _ => bodyPost m ρ c)
  isplitl [H]; · iexact H
  iintro H; iexact H

end Cert.Exchange
-- ==== Proof.Deal.lean ====
/-
# Dealing the exchange's ghost state at launch

Every semaphore of the exchange starts a protocol at round 0. The right to each payment is minted at the semaphore
that is paid and given to the device that pays; who pays whom is the involution on pairs (device, place).
-/
module

public import proofs.«01_k».proof.Proof.State

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is minted -/

theorem csem_injective : Function.Injective csem := by decide

theorem kcell_injective : Function.Injective kcell := by
  rintro ⟨c, k⟩ ⟨c', k'⟩ h
  have hc : c = c' := congrArg (fun g : GSem nD τ sig => g.1.1) h
  have hk : k = k' := csem_injective (congrArg Prod.snd h)
  rw [hc, hk]

/-- The exchange's semaphores. -/
def allCells : Finset (GSem nD τ sig) := Finset.univ.map ⟨kcell, kcell_injective⟩

/-- The three payments that belong to a pair (device, place): the one to the device's barrier from its peer there, the one to its
    send semaphore there, and the one to its receive semaphore for that peer. -/
def payName (p : (Dev nD × Fin 7) × Fin 3) : GSem nD τ sig × ℕ × Fin 7 :=
  match p.2 with
  | 0 => (barCell p.1.1, 0, p.1.2)
  | 1 => (sendCell p.1.1 p.1.2, 0, 0)
  | 2 => (recvCell p.1.1 (tgt p.1.1 p.1.2), 0, 0)

/-- The same payment by device, purpose of the semaphore, and name. -/
def payKey (x : GSem nD τ sig × ℕ × Fin 7) : Dev nD × Role × Fin 7 := (x.1.1.1, role x.1.2, x.2.2)

theorem payKey_bar (c : Dev nD) (r : Fin 7) : payKey (payName ((c, r), 0)) = (c, .bar, r) := rfl
theorem payKey_send (c : Dev nD) (r : Fin 7) : payKey (payName ((c, r), 1)) = (c, .send r, 0) := by
  unfold payKey payName; dsimp only; rw [role_send]
theorem payKey_recv (c : Dev nD) (r : Fin 7) : payKey (payName ((c, r), 2)) = (c, .recv (tgt c r), 0) := by
  unfold payKey payName; dsimp only; rw [role_recv]

theorem payName_injective : Function.Injective payName := by
  rintro ⟨⟨c, r⟩, j⟩ ⟨⟨c', r'⟩, j'⟩ h
  have hk := congrArg payKey h
  fin_cases j <;> fin_cases j' <;>
    simp only [Fin.zero_eta, Fin.mk_one, Fin.reduceFinMk, payKey_bar, payKey_send, payKey_recv, Prod.mk.injEq, reduceCtorEq, false_and, and_false,
      Role.send.injEq, Role.recv.injEq, true_and, and_true] at hk
  · rw [hk.1, hk.2]
  · rw [hk.1, hk.2]
  · obtain ⟨rfl, h2⟩ := hk
    rw [tgt_inj c h2]

def allPays : Finset (GSem nD τ sig × ℕ × Fin 7) := Finset.univ.map ⟨payName, payName_injective⟩

/-- The launch element: the pipeline's own and the exchange's. -/
def u₀ : UU :=
  (initOf (Pipeline.cells cfgs cellOf_inj) (Pipeline.launchToks cfgs cellOf_inj), initOf allCells allPays)

/-- The payments received at device `c`'s own semaphores. -/
def minted (c : Dev nD) : sProp 𝕄 :=
  bigSep Finset.univ fun r : Fin 7 => iprop(dutyTok ER (barCell c) 0 r ∗ dutyTok ER (sendCell c r) 0 0 ∗ dutyTok ER (recvCell c (tgt c r)) 0 0)
/-- The payments device `c` makes. -/
def dealt (c : Dev nD) : sProp 𝕄 :=
  bigSep Finset.univ fun r : Fin 7 =>
    iprop(dutyTok ER (barCell (tgt c r)) 0 (mir r) ∗ dutyTok ER (sendCell c r) 0 0 ∗ dutyTok ER (recvCell (tgt c r) c) 0 0)

/-- What the launch element gives device `c`. -/
def G (c : Dev nD) : sProp 𝕄 :=
  iprop((bigSep Finset.univ fun k : Fin 16 => roundState ER (sched (opX m ρ)) (kcell (c, k)) 0)
    ∗ (bigSep Finset.univ fun k : Fin 16 => iprop(atPos ER (kcell (c, k)) 0 ∅ 0 ∗ reached ER (kcell (c, k)) 0)) ∗ minted c)

/-- What it holds when the body starts. -/
def G' (c : Dev nD) : sProp 𝕄 := iprop(∃ K, ghost m ρ K c)

/-- Over the exchange's semaphores: device by device, semaphore by semaphore. -/
theorem over_cells (Φ : GSem nD τ sig → sProp 𝕄) :
    bigSep allCells Φ = bigSep Finset.univ fun c : Dev nD => bigSep Finset.univ fun k : Fin 16 => Φ (kcell (c, k)) := by
  unfold allCells; rw [bigSep_map, bigSep_univ_prod]; rfl

theorem over_three (Φ : Fin 3 → sProp 𝕄) : bigSep Finset.univ Φ = iprop(Φ 0 ∗ Φ 1 ∗ Φ 2) :=
  bigSep_univ_eq_bigSepL [0, 1, 2] (by decide) (by decide) Φ

theorem over_pays : (bigSep allPays fun x => (dutyTok ER x.1 x.2.1 x.2.2 : sProp 𝕄)) = bigSep Finset.univ fun c : Dev nD => minted c := by
  unfold allPays
  rw [bigSep_map, bigSep_univ_prod, bigSep_univ_prod]
  refine bigSep_congr fun c _ => ?_
  unfold minted
  exact bigSep_congr fun r _ => by rw [over_three]; rfl

theorem fund_exchange : BI.own (ER (initOf allCells allPays)) ⊢ (|==> bigSep Finset.univ (G m ρ) : sProp 𝕄) := by
  iintro HX
  imod (Rounds.fund ER (sched (opX m ρ)) allCells allPays) $$ HX with ⟨Hst, Hr, Hat, Htok⟩
  imodintro
  ihave Hst := (Entails.of_eq (over_cells fun g => roundState ER (sched (opX m ρ)) g 0)) $$ Hst
  ihave Hat := (Entails.of_eq (over_cells fun g => atPos ER g 0 ∅ 0)) $$ Hat
  ihave Hr := (Entails.of_eq (over_cells fun g => reached ER g 0)) $$ Hr
  ihave Htok := (Entails.of_eq over_pays) $$ Htok
  unfold G; simp only [bigSep_sep']
  isplitl [Hst]; · iexact Hst
  isplitl [Hat Hr]
  · isplitl [Hat] <;> iassumption
  iexact Htok

/-! ## The semaphores, listed -/

set_option backward.proofsInPublic true in
/-- The semaphores the kernel allocates: all of the exchange's but the barrier. -/
def osem (k : Fin 15) : SemLoc sig := .dma ⟨5 + k.val, by have := k.isLt; show _ < 20; omega⟩

theorem ownSemFacts : Pipeline.OwnSemFacts cfg0.spec osem := by decide

theorem csem_succ (k : Fin 15) : csem k.succ = osem k := by revert k; decide

/-- The sixteen as the barrier and the other fifteen; -/
theorem over_succ (Φ : Fin 16 → sProp 𝕄) : bigSep Finset.univ Φ = iprop(Φ 0 ∗ bigSep Finset.univ fun k : Fin 15 => Φ k.succ) := by
  rw [bigSep_univ_eq_bigSepL (0 :: (List.finRange 15).map Fin.succ) (by decide) (by decide), bigSepL_cons, bigSepL_map,
    ← bigSep_univ_eq_bigSepL (List.finRange 15) (by decide) (by decide) fun k : Fin 15 => Φ k.succ]
  rfl

set_option backward.proofsInPublic true in
def dev0 : Dev nD := ⟨0, by decide⟩

/-- and by kind. -/
theorem over_kinds (Φ : Fin 16 → sProp 𝕄) :
    bigSep Finset.univ Φ = iprop(Φ 0 ∗ (bigSepL places fun r => Φ (iSend r)) ∗ bigSep Finset.univ fun s => Φ (iRecv s)) := by
  rw [bigSep_univ_eq_bigSepL (0 :: (places.map iSend ++ (dev0 :: places.map (tgt dev0)).map iRecv)) (by decide) (by decide), bigSepL_cons, bigSepL_append,
    bigSepL_map, bigSepL_map, ← bigSep_univ_eq_bigSepL (dev0 :: places.map (tgt dev0)) (univ_peers dev0) (nodup_peers dev0) fun s => Φ (iRecv s)]
  rfl

/-- One fact per semaphore of device `c`, by kind. -/
theorem over_device (c : Dev nD) (Φ : GSem nD τ sig → sProp 𝕄) :
    (bigSep Finset.univ fun k : Fin 16 => Φ (kcell (c, k)))
      = iprop(Φ (barCell c) ∗ (bigSepL places fun r => Φ (sendCell c r)) ∗ bigSep Finset.univ fun s => Φ (recvCell c s)) := by
  rw [over_kinds]; simp only [kcell_bar, kcell_send, kcell_recv]

theorem unscopedSems0_eq (c : Dev nD) : (unscopedSems0 c : sProp 𝕄) = semVal (barCell c) 0 := by
  unfold unscopedSems0; rw [bigSep_eq_bigSepL_of_eq [SemLoc.reg barS] (by decide) (by decide)]; rfl

/-- All at zero: the launch's barrier and the kernel's own. -/
theorem sems0_eq (c : Dev nD) :
    (bigSep Finset.univ fun k : Fin 16 => (semVal (kcell (c, k)) 0 : sProp 𝕄))
      = iprop(unscopedSems0 c ∗ Pipeline.ownSems0 (Ix := Unit) (Name := ℕ) (U := UU) (Lvl := ℕ) (Val := Elt F) (τ := τ) osem c) := by
  rw [over_succ, unscopedSems0_eq]
  unfold Pipeline.ownSems0 kcell
  simp only [csem_succ]
  rfl

/-! ## The step before the bodies -/

/-- A device turns its semaphores' values into the protocols' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched (opX m ρ)) κ (kcell (c, k))))
          ∗ (bigSep Finset.univ fun k => iprop(atPos ER (kcell (c, k)) 0 ∅ 0 ∗ reached ER (kcell (c, k)) 0)) ∗ minted c) := by
  have hI : iprop((bigSep Finset.univ fun k : Fin 16 => semVal (kcell (c, k)) 0)
        ∗ bigSep Finset.univ fun k : Fin 16 => roundState ER (sched (opX m ρ)) (kcell (c, k)) 0)
      ⊢ (|={Set.univ}=> bigSep Finset.univ fun k => iprop(∃ κ : ℕ, cellInv ER (sched (opX m ρ)) κ (kcell (c, k))) : sProp 𝕄) := by
    rw [← bigSep_sep']
    exact (bigSep_mono fun k _ => (Rounds.body_intro ER (sched (opX m ρ)) (kcell (c, k))).trans inv_alloc).trans (bigSep_fupd _ _)
  unfold G
  iintro ⟨Hos, Hus, Hst, Hat, Htok⟩
  ihave Hv := (Entails.of_eq (sems0_eq (F := F) c).symm) $$ [Hos Hus]
  · isplitl [Hus] <;> iassumption
  imod hI $$ [Hv Hst] with Hinv
  · isplitl [Hv] <;> iassumption
  imodintro
  isplitl [Hinv]; · iexact Hinv
  isplitl [Hat]; · iexact Hat
  iexact Htok

/-- What stays with device `c` alone: its positions, and the payments it makes. -/
def mine (c : Dev nD) : sProp 𝕄 := iprop((bigSep Finset.univ fun k : Fin 16 => atPos ER (kcell (c, k)) 0 ∅ 0) ∗ dealt c)

theorem ghost_intro (K : Dev nD × Fin 16 → ℕ) (c : Dev nD) : iprop(records (opX m ρ) K ∗ mine c) ⊢ G' m ρ c := by
  unfold mine dealt G' ghost
  rw [over_device c fun g => atPos ER g 0 ∅ 0, bigSep_sep', bigSep_places, bigSep_places]
  iintro ⟨#HR, ⟨HB, HS, HV⟩, HtB, Ht⟩
  iexists K
  isplitr; · iexact HR
  isplitl [HB]; · iexact HB
  isplitl [HS]; · iexact HS
  isplitl [HV]; · iexact HV
  isplitl [HtB] <;> iassumption

/-- Payments move from where they are received to who makes them, along the involution. -/
theorem deal : (bigSep Finset.univ fun c : Dev nD => (minted c : sProp 𝕄)) = bigSep Finset.univ fun c : Dev nD => dealt c := by
  unfold minted dealt
  simp only [bigSep_sep']
  rw [← bigSep_univ_prod (fun p : Dev nD × Fin 7 => (dutyTok ER (barCell p.1) 0 p.2 : sProp 𝕄)),
    ← bigSep_univ_prod (fun p : Dev nD × Fin 7 => (dutyTok ER (recvCell p.1 (tgt p.1 p.2)) 0 0 : sProp 𝕄)),
    bigSep_univ_equiv peer (fun p : Dev nD × Fin 7 => (dutyTok ER (barCell p.1) 0 p.2 : sProp 𝕄)),
    bigSep_univ_equiv peer (fun p : Dev nD × Fin 7 => (dutyTok ER (recvCell p.1 (tgt p.1 p.2)) 0 0 : sProp 𝕄)),
    bigSep_univ_prod, bigSep_univ_prod]
  dsimp only [peer, Equiv.coe_fn_mk]
  simp only [tgt_mir]

theorem with_persistent {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- The invariants become common knowledge, and the payments are dealt. -/
theorem regroup :
    (bigSep Finset.univ fun c : Dev nD => iprop((bigSep Finset.univ fun k => iprop(∃ κ : ℕ, cellInv ER (sched (opX m ρ)) κ (kcell (c, k))))
          ∗ (bigSep Finset.univ fun k => iprop(atPos ER (kcell (c, k)) 0 ∅ 0 ∗ reached ER (kcell (c, k)) 0)) ∗ minted c) : sProp 𝕄)
      ⊢ bigSep Finset.univ (G' m ρ) := by
  simp only [bigSep_sep']
  rw [← bigSep_univ_prod (fun p : Dev nD × Fin 16 => iprop(∃ κ : ℕ, cellInv ER (sched (opX m ρ)) κ (kcell p))),
    ← bigSep_univ_prod (fun p : Dev nD × Fin 16 => (reached ER (kcell p) 0 : sProp 𝕄)), deal]
  iintro ⟨HI, ⟨Hat, #HR⟩, Hd⟩
  ihave HK := (BI.bigSep_exists_pi Finset.univ (fun (p : Dev nD × Fin 16) (κ : ℕ) => (cellInv ER (sched (opX m ρ)) κ (kcell p) : sProp 𝕄))) $$ HI
  icases HK with ⟨%K, #HI⟩
  iapply (with_persistent (R := records (opX m ρ) K) fun c => ghost_intro m ρ K c)
  isplitr
  · unfold records; rw [bigSep_sep']
    isplitl; · iexact HI
    iexact HR
  · unfold mine; rw [bigSep_sep']
    isplitl [Hat]; · iexact Hat
    iexact Hd

/-- Every device at once: from the semaphores at zero and what was minted to what each body starts from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.Exchange
-- ==== Proof.Credit.lean ====
/-
# What a device is owed at launch

A device's launch credit is what the others owe its semaphores: seven signals at its barrier, and one block at its
receive semaphore for each other device.
-/
module

public import proofs.«01_k».proof.Proof.State

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bar_inj {a b : Dev nD} (h : barCell a = barCell b) : a = b := congrArg (fun g : GSem nD τ sig => g.1.1) h
theorem recv_inj {a b s s' : Dev nD} (h : recvCell a s = recvCell b s') : a = b ∧ s = s' := by
  refine ⟨congrArg (fun g : GSem nD τ sig => g.1.1) h, ?_⟩
  have := congrArg (fun g : GSem nD τ sig => role g.2) h
  dsimp only at this
  rw [role_recv, role_recv] at this
  exact Role.recv.inj this
theorem recv_ne_bar {a b s : Dev nD} : recvCell a s ≠ barCell b := fun h => by
  have := congrArg (fun g : GSem nD τ sig => role g.2) h
  dsimp only at this
  rw [role_recv, role_bar] at this
  cases this

/-- How many of the places listed have `c` for the peer of `d`. -/
def hits (d c : Dev nD) (l : List (Fin 7)) : ℕ := (l.map fun r => if tgt d r = c then 1 else 0).sum

theorem hits_cons (d c : Dev nD) (r : Fin 7) (l : List (Fin 7)) : hits d c (r :: l) = (if tgt d r = c then 1 else 0) + hits d c l := by
  unfold hits; rw [List.map_cons, List.sum_cons]
theorem hits_places (d c : Dev nD) : hits d c places = if d = c then 0 else 1 := by revert d c; decide
theorem sum_hits (c : Dev nD) : (∑ d : Dev nD, if d = c then 0 else 1) = 7 := by revert c; decide

theorem owedSend_bar (d c : Dev nD) (l : List (Fin 7)) : owedSend d l (barCell c) () = 0 := by
  induction l with
  | nil => rfl
  | cons r l ih =>
    unfold owedSend
    rw [Pi.add_apply, Finsupp.add_apply, ih, tallyAt_apply, if_neg fun h => recv_ne_bar h.1.symm]
theorem owedSend_recv (d c : Dev nD) (l : List (Fin 7)) : owedSend d l (recvCell c d) () = N * hits d c l := by
  induction l with
  | nil => rfl
  | cons r l ih =>
    unfold owedSend
    rw [Pi.add_apply, Finsupp.add_apply, ih, tallyAt_apply, hits_cons, Nat.mul_add, Nat.add_comm]
    congr 1
    by_cases h : tgt d r = c
    · rw [if_pos h, if_pos ⟨by rw [h], rfl⟩, Nat.mul_one]
    · rw [if_neg h, if_neg fun e => h (recv_inj e.1).1.symm, Nat.mul_zero]
theorem owedSend_other (d c s : Dev nD) (h : d ≠ s) (l : List (Fin 7)) : owedSend d l (recvCell c s) () = 0 := by
  induction l with
  | nil => rfl
  | cons r l ih =>
    unfold owedSend
    rw [Pi.add_apply, Finsupp.add_apply, ih, tallyAt_apply, if_neg fun e => h (recv_inj e.1).2.symm]
theorem owedSig_recv (d c s : Dev nD) (l : List (Fin 7)) : owedSig d l (recvCell c s) () = owedSend d places (recvCell c s) () := by
  induction l with
  | nil => rfl
  | cons r l ih =>
    unfold owedSig
    rw [Pi.add_apply, Finsupp.add_apply, ih, tallyAt_apply, if_neg fun h => recv_ne_bar h.1, Nat.add_zero]
theorem owedSig_bar (d c : Dev nD) (l : List (Fin 7)) : owedSig d l (barCell c) () = hits d c l := by
  induction l with
  | nil => exact owedSend_bar d c places
  | cons r l ih =>
    unfold owedSig
    rw [Pi.add_apply, Finsupp.add_apply, ih, tallyAt_apply, hits_cons, Nat.add_comm]
    congr 1
    by_cases h : tgt d r = c
    · rw [if_pos h, if_pos ⟨by rw [h], rfl⟩]
    · rw [if_neg h, if_neg fun e => h (bar_inj e.1).symm]

theorem credit_bar (c : Dev nD) : launchCredit (Pipeline.owing O₀) 0 (barCell c) () = 7 := by
  rw [Pipeline.launchCredit_owing, Finset.sum_congr rfl fun d _ => (show O₀ d (barCell c) () = _ from (owedSig_bar d c places).trans (hits_places d c)), sum_hits]
theorem credit_recv (c s : Dev nD) (h : s ≠ c) : launchCredit (Pipeline.owing O₀) 0 (recvCell c s) () = N := by
  rw [Pipeline.launchCredit_owing, Finset.sum_eq_single s]
  · unfold O₀; rw [owedSig_recv, owedSend_recv, hits_places, if_neg h, Nat.mul_one]
  · intro d _ hd; unfold O₀; rw [owedSig_recv, owedSend_other d c s hd]
  · exact fun h' => absurd (Finset.mem_univ s) h'

/-- A tally with one index is its value there. -/
theorem tallyOn_eq (g : GSem nD τ sig) (f : Unit →₀ ℕ) (n : ℕ) (h : f () = n) : tallyOn g f = tallyAt g () n := by
  unfold tallyAt
  congr 1
  exact Finsupp.ext fun u => (h.trans Finsupp.single_eq_same.symm : f () = Finsupp.single () n ())

/-- The semaphores a device waits at for the others. -/
def awaited (c : Dev nD) : List (SemLoc sig) := .reg barS :: places.map fun r => .dma (recvS (src c r))

theorem awaited_nodup (c : Dev nD) : (awaited c).Nodup := by revert c; decide

/-- The launch credit, as far as the body uses it. -/
theorem launchCred_elim (c : Dev nD) :
    (Pipeline.launchCred O₀ c : sProp 𝕄)
      ⊢ iprop(cred (tallyAt (barCell c) () 7) ∗ bigSepL places fun r => cred (tallyAt (recvCell c (src c r)) () N)) := by
  have e : (bigSep (awaited c).toFinset fun sm : SemLoc sig =>
        (cred (tallyOn ((c : Thread nD τ), sm) (launchCredit (Pipeline.owing O₀) 0 ((c : Thread nD τ), sm))) : sProp 𝕄))
      = iprop(cred (tallyAt (barCell c) () 7) ∗ bigSepL places fun r => cred (tallyAt (recvCell c (src c r)) () N)) := by
    rw [bigSep_eq_bigSepL_of_eq (awaited c) rfl (awaited_nodup c)]
    unfold awaited
    rw [bigSepL_cons, bigSepL_map, tallyOn_eq _ _ _ (credit_bar c),
      show (fun r : Fin 7 => (cred (tallyOn ((c : Thread nD τ), .dma (recvS (src c r))) (launchCredit (Pipeline.owing O₀) 0 ((c : Thread nD τ), .dma (recvS (src c r))))) : sProp 𝕄))
        = fun r => cred (tallyAt (recvCell c (src c r)) () N) from
      funext fun r => by rw [tallyOn_eq _ _ _ (credit_recv c (src c r) (tgt_ne c (mir r)))]]
    rfl
  rw [← e]
  unfold Pipeline.launchCred
  exact bigSep_subset (Finset.subset_univ (awaited c).toFinset)

end Cert.Exchange
-- ==== Proof.Launch.lean ====
/-
# The run of the whole program

From any memory with every semaphore at zero, at any float values, every weakly fair execution on the eight devices
terminates; at the end each device's result array holds the computed block, its operands are as they were, and every
semaphore is at zero.
-/
module

public import proofs.«01_k».proof.Proof.Body
public import proofs.«01_k».proof.Proof.Deal
public import proofs.«01_k».proof.Proof.Credit
public import Idealize.ShloMosaic.Lib.Pipeline.CollectiveSegs

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

/-- From what a device gets at launch to what its body starts from. -/
theorem start_intro (c : Dev nD) :
    iprop(Pipeline.unscopedRestP Pipeline.Prefetch.none cfg0.spec c (fun b => m ((c : Thread nD τ).loc b)) ∗ levAts L lv ∗ Pipeline.launchCred O₀ c ∗ prngReg c (ρ c) ∗ G' m ρ c)
      ⊢ |={Set.univ}=> iprop(start m ρ c ∗ emp) := by
  iintro ⟨-, Hlev, Hcr, -, HG⟩
  ihave Hc := (launchCred_elim (F := F) c) $$ Hcr
  icases Hc with ⟨HB, HV⟩
  imodintro
  unfold start G'
  isplitl
  · isplitl [HG]; · iexact HG
    isplitl [HB]; · iexact HB
    isplitl [HV]; · iexact HV
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch atRest
  rw [← over_device c fun g => (semVal g 0 : sProp 𝕄), sems0_eq]
  iintro ⟨⟨Hu, Ho⟩, Hr⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every weakly fair execution terminates with the arrays at `finalA` and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array holds what it held. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

end Cert.Exchange
-- ==== Proof.Int8.lean ====
/-
# Sums of products of 8-bit integers

The product of two matrices of 8-bit integers, read at an entry as a sum over the contracted positions; such a sum cut
into eight equal parts; its size; and its passage to the extended reals.
-/
module

public import Idealize.ShloMosaic.Lib.IntMxu
public import Idealize.ShloMosaic.Lib.MatmulPlain
public import Idealize.ShloMosaic.Lib.StackMember
public import Mathlib.Algebra.BigOperators.Fin
public import Mathlib.Data.EReal.Operations

@[expose] public section

noncomputable section

namespace Cert.Exchange

open Idealize.ShloMosaic Idealize.ShloMosaic.ValueIdx
open scoped BigOperators

/-- An entry of a product of 8-bit matrices into a zero accumulator: the 32-bit word of the sum of products, when the
contraction is short enough for the sum to be exact. -/
theorem product_entry {M K N : ℕ} (g : IntMxuNumerics) (a : IVec ⟨2, ![M, K]⟩ 8) (b : IVec ⟨2, ![K, N]⟩ 8)
    (z : IVec ⟨2, ![M, N]⟩ 32) (r : Fin M) (c : Fin N) (hz : z (ix2 r c) = 0)
    (hK : (DotDims.plain M K N).contr.numel * 2 ^ 14 ≤ g.exactUpTo) :
    matmulI8 g (DotDims.plain M K N) a b z (ix2 r c)
      = BitVec.ofInt 32 (∑ k : Fin K, (a (ix2 r k)).toInt * (b (ix2 k c)).toInt) := by
  rw [matmulI8_exact_of_numel g _ a b z _ hz hK]
  congr 1
  unfold dotI8
  rw [← Equiv.sum_comp (DotDims.plainContr M K N).symm]
  refine Finset.sum_congr rfl fun k _ => ?_
  have hk := contrEquiv1_symm_val _ K (DotDims.plain_contr_rank M K N) (DotDims.plain_contr_size M K N) k
  have hl : (DotDims.plain M K N).lhsIdx (ix2 r c) ((DotDims.plainContr M K N).symm k) = ix2 r k :=
    funext fun ax => Fin.ext (match ax with | ⟨0, _⟩ => rfl | ⟨1, _⟩ => hk)
  have hr : (DotDims.plain M K N).rhsIdx (ix2 r c) ((DotDims.plainContr M K N).symm k) = ix2 k c :=
    funext fun ax => Fin.ext (match ax with | ⟨0, _⟩ => hk | ⟨1, _⟩ => rfl)
  rw [hl, hr]

theorem part_lt (s : Fin 8) (k : Fin 512) : 512 * s.val + k.val < 4096 := by omega

/-- A sum over 4096 positions is the sum of its eight parts of 512. -/
theorem sum_parts {A : Type} [AddCommMonoid A] (f : Fin 4096 → A) :
    ∑ k, f k = ∑ s : Fin 8, ∑ k : Fin 512, f ⟨512 * s.val + k.val, part_lt s k⟩ := by
  rw [← Fintype.sum_prod_type' (f := fun (s : Fin 8) (k : Fin 512) => f ⟨512 * s.val + k.val, part_lt s k⟩)]
  refine (Fintype.sum_equiv (finProdFinEquiv (m := 8) (n := 512)) _ _ fun p => congrArg f (Fin.ext ?_)).symm
  show 512 * p.1.val + p.2.val = p.2.val + 512 * p.1.val
  omega

/-- A sum of 4096 products of 8-bit integers is a 32-bit integer: its word, read back, is the sum. -/
theorem toInt_sum (a b : Fin 4096 → BitVec 8) :
    (BitVec.ofInt 32 (∑ k, (a k).toInt * (b k).toInt)).toInt = ∑ k, (a k).toInt * (b k).toInt := by
  have hterm : ∀ k ∈ (Finset.univ : Finset (Fin 4096)), |(a k).toInt * (b k).toInt| ≤ 2 ^ 14 := fun k _ => by
    have ha := natAbs_toInt_i8_le (a k)
    have hb := natAbs_toInt_i8_le (b k)
    have h := Nat.mul_le_mul ha hb
    rw [← Int.natAbs_mul] at h
    rw [Int.abs_eq_natAbs]
    exact_mod_cast h
  have hsum : |∑ k, (a k).toInt * (b k).toInt| ≤ 4096 * 2 ^ 14 := by
    refine (Finset.abs_sum_le_sum_abs _ _).trans ((Finset.sum_le_card_nsmul _ _ _ hterm).trans ?_)
    simp
  obtain ⟨h1, h2⟩ := abs_le.mp hsum
  rw [BitVec.toInt_ofInt]
  exact Int.bmod_eq_of_le (by omega) (by omega)

/-- A sum of products of integers, in the extended reals. -/
theorem sum_ereal {ι : Type} (s : Finset ι) (a b : ι → ℤ) :
    (((∑ k ∈ s, a k * b k : ℤ) : ℝ) : EReal) = ∑ k ∈ s, (((a k : ℤ) : ℝ) : EReal) * (((b k : ℤ) : ℝ) : EReal) := by
  classical
  induction s using Finset.induction_on with
  | empty => simp
  | insert k s hk ih =>
    rw [Finset.sum_insert hk, Finset.sum_insert hk, ← ih, Int.cast_add, EReal.coe_add, Int.cast_mul, EReal.coe_mul]

end Cert.Exchange

end
-- ==== Proof.Total.lean ====
/-
# What the accumulator holds at the end

Each product the kernel adds is, entry by entry, a part of the sum that makes the whole product's entry; the parts are
added in the order the blocks arrive in, and every part is added once.
-/
module

public import proofs.«01_k».proof.Proof.Compute
public import proofs.«01_k».proof.Proof.Int8

@[expose] public section

set_option maxRecDepth 16384

noncomputable section

namespace Cert.Exchange

open Cert.KernelIdeal Cert.KernelIdeal.Gen

open Idealize.ShloMosaic Idealize.ShloMosaic.ValueIdx
open Idealize.ShloMosaic.TcCoe
open scoped BigOperators

variable {F : FTy → Type} [FloatOps F]

/-- A cast to the same shape changes nothing. -/
theorem shapeCast_same {s : Shape} {α : Type} (x : s.Idx → α) (h : s.ShapeCasts s) : shapeCast s x h = x := funext fun j => by
  unfold shapeCast
  exact congrArg x (by simp)

/-- A slot's contents, without the leading axis. -/
theorem shapeCast_slot {α : Type} (x : S1x512x512.Idx → α) (h : S1x512x512.ShapeCasts S512x512) (j : S512x512.Idx) :
    shapeCast S512x512 x h j = x (Fin.cons ⟨0, Nat.one_pos⟩ j) :=
  congrArg x (Shape.reshapeEquiv_cons_one (n := 2) (d := ![512, 512]) _ j)

variable (X : Dev nD → (cc0_stg0_0 : Ref sig .tc).ty.Contents (Elt F)) (Wt : Dev nD → (cc0_stg1_0 : Ref sig .tc).ty.Contents (Elt F))

/-- The part of entry `(p, q)` of device `c`'s result that device `s`'s block of `x` makes. -/
def part (c s : Dev nD) (p : Fin 512) (q : Fin 2048) : ℤ :=
  ∑ k : Fin 512, (rowsX (F := F) c (X s) (ix2 p k) : BitVec 8).toInt * (rowsW (F := F) s (Wt c) (ix2 k q) : BitVec 8).toInt

/-- An entry of a product of a block with rows of the weight. -/
theorem block_product (a : IVec S512x512 8) (b : IVec S512x2048 8) (p : Fin 512) (q : Fin 2048) :
    matmulI8 IntMxuNumerics.v7x dot_S512x512_S512x2048_S512x2048_1_0_0_1_n_n a b (constantI S512x2048 32 0#32) (ix2 p q)
      = BitVec.ofInt 32 (∑ k : Fin 512, (a (ix2 p k)).toInt * (b (ix2 k q)).toInt) :=
  product_entry (M := 512) (K := 512) (N := 2048) IntMxuNumerics.v7x a b _ p q rfl (by decide)

/-- The accumulator holds the parts of the devices whose blocks are in. -/
theorem accAt_entry (c : Dev nD) (d : List (Fin 7)) (p : Fin 512) (q : Fin 2048) :
    accAt X Wt c d (ix2 p q) = BitVec.ofInt 32 (((c :: d.map (src c)).map fun s => part X Wt c s p q).sum) := by
  induction d with
  | nil =>
    show k0_pay3 (k0_pay2 (F := F) (rowsX c (X c))) (rowsW c (Wt c)) (ix2 p q) = _
    unfold k0_pay3 k0_pay2
    simp only [shapeCast_same]
    rw [block_product]
    simp [part]
  | cons r d ih =>
    show k0_pay4 (F := F) (accAt X Wt c d) (slotX c (X (src c r))) (rowsW (src c r) (Wt c)) (ix2 p q) = _
    unfold k0_pay4
    simp only [shapeCast_same]
    show accAt X Wt c d (ix2 p q) + matmulI8 _ _ _ _ _ (ix2 p q) = _
    rw [block_product, ih, ← BitVec.ofInt_add]
    have e : ∀ k : Fin 512, shapeCast S512x512 (slotX (F := F) c (X (src c r))) shapeCasts_S1x512x512_S512x512 (ix2 p k)
        = rowsX (F := F) c (X (src c r)) (ix2 p k) := fun k => (shapeCast_slot _ _ _).trans rfl
    simp only [e]
    congr 1
    simp only [List.map_cons, List.sum_cons]
    unfold part
    ring

/-- Once all are in, it holds the sum of the parts of every device. -/
theorem total_entry (c : Dev nD) (p : Fin 512) (q : Fin 2048) :
    accAt X Wt c placesRev (ix2 p q) = BitVec.ofInt 32 (∑ s : Dev nD, part X Wt c s p q) := by
  rw [accAt_entry, univ_srcs_rev c, List.sum_toFinset _ (nodup_srcs_rev c)]

end Cert.Exchange

end
-- ==== Proof.Value.lean ====
/-
# The result, and the reference's

Over the extended reals: the kernel's result on device `c` is row block `c` of the reference's.
-/
module

public import proofs.«01_k».proof.Proof.Total
public import proofs.«01_k».proof.Proof.Launch
public import proofs.«01_k».proof.Proof.Gen.ReferenceIdeal.Run
public import Idealize.ShloMosaic.Lib.Layout
public import Idealize.ShloMosaic.Lib.Pipeline.ValueKit

@[expose] public section

set_option maxRecDepth 16384

noncomputable section

namespace Cert.Exchange

section
open Cert.ReferenceIdeal Cert.ReferenceIdeal.Gen Idealize.ShloMosaic

/-- What the reference makes of the product `d`: scaled, and rectified. -/
def refScaled (d : FVec Ideal S4096x2048 .f32) (a b : FVec Ideal S1 .f32) : FVec Ideal S4096x2048 .f32 :=
  maximumf (mulf d (broadcastInDim S4096x2048 ![0, 1] bcast_S1x1_S4096x2048_0_1 (broadcastInDim S1x1 ![1] bcast_S1_S1x1_1 (mulf a b))))
    (broadcastInDim S4096x2048 ![] bcast_S_S4096x2048 (constant S_ .f32 0x00000000#32))

/-- The reference's result, of its operands. -/
abbrev refOut (x : S4096x4096.Idx → BitVec 8) (w : S4096x2048.Idx → BitVec 8)
    (a b : FVec Ideal S1 .f32) : FVec Ideal S4096x2048 .f32 :=
  refScaled (Host.dotGeneral dot_S4096x4096_S4096x2048_S4096x2048_1_0_0_1_n_n none (sitofp .f32 (extsi 32 x natLt_8_32)) (sitofp .f32 (extsi 32 w natLt_8_32))) a b

/-- An entry of the product, scaled and rectified. -/
theorem refScaled_entry (d : FVec Ideal S4096x2048 .f32) (a b : FVec Ideal S1 .f32) (i : S1.Idx) (j : S4096x2048.Idx) :
    refScaled d a b j = FloatOps.maximumf (FloatOps.mulf (d j) (FloatOps.mulf (a i) (b i))) (FloatOps.ofBits .f32 0x00000000#32) := by
  have h : ∀ k : S1.Idx, k = i := fun k => funext fun ax => Fin.ext (by
    have h1 : S1.size ax = 1 := by fin_cases ax; rfl
    have hk := (k ax).isLt
    have hi := (i ax).isLt
    omega)
  unfold refScaled
  simp only [maximumf_apply, mulf_apply, broadcastInDim, h]
  rfl

end

open Cert.KernelIdeal Cert.KernelIdeal.Gen

open Idealize.ShloMosaic hiding ix1 ix2 eq_ix2
open Idealize.ShloMosaic.ValueIdx
open Idealize.ShloMosaic.TcCoe
open scoped BigOperators

/-! ## Staging copies whole arrays -/

section Staged
variable {F : FTy → Type} [FloatOps F] (m : (ℓ : Loc nD τ sig) → Buf (Elt F) ℓ) (ρ : Dev nD → PrngReg)

theorem opX_eq (c : Dev nD) : opX m ρ c = m ((c : Thread nD τ).loc main_arg0) := funext fun j =>
  congrArg (m ((c : Thread nD τ).loc main_arg0)) (funext fun a => Fin.ext (by
    fin_cases a
    · show 0 * 4096 + 1 * (j 0).val = (j 0).val; omega
    · show 0 * 512 + 1 * (j 1).val = (j 1).val; omega))
theorem opW_eq (c : Dev nD) : opW m ρ c = m ((c : Thread nD τ).loc main_arg1) := funext fun j =>
  congrArg (m ((c : Thread nD τ).loc main_arg1)) (funext fun a => Fin.ext (by
    fin_cases a
    · show 0 * 4096 + 1 * (j 0).val = (j 0).val; omega
    · show 0 * 2048 + 1 * (j 1).val = (j 1).val; omega))
theorem opA_eq (c : Dev nD) : opA m ρ c = m ((c : Thread nD τ).loc main_arg2) := funext fun j =>
  congrArg (m ((c : Thread nD τ).loc main_arg2)) (one_idx _ _)
theorem opB_eq (c : Dev nD) : opB m ρ c = m ((c : Thread nD τ).loc main_arg3) := funext fun j =>
  congrArg (m ((c : Thread nD τ).loc main_arg3)) (one_idx _ _)

/-- The result array ends holding what the body leaves in its staging buffer. -/
theorem finalA_out (c : Dev nD) : finalA m ρ c (4 : Fin 5) = outAt m ρ c :=
  (dats m ρ 0 c).arrAt_eq_of_after_last (4 : Fin 5) t₀ (by decide +kernel) (outAt m ρ c) fun j => rfl

end Staged

/-! ## The two results -/

section Results

/-- An 8-bit integer widened and converted is that integer. -/
theorem convert_entry {s : Shape} (x : s.Idx → BitVec 8) (h : 8 < 32) (j : s.Idx) :
    (sitofp (F := Ideal) .f32 (extsi 32 x h) j : EReal) = (((x j).toInt : ℝ) : EReal) := by
  show ((((x j).signExtend 32).toInt : ℝ) : EReal) = _
  rw [BitVec.toInt_signExtend_of_le (by decide)]

/-- An entry of the reference's product: the sum of products, as an integer. -/
theorem ref_product (x : Cert.ReferenceIdeal.S4096x4096.Idx → BitVec 8) (w : Cert.ReferenceIdeal.S4096x2048.Idx → BitVec 8)
    (hx : 8 < 32) (i : Fin 4096) (q : Fin 2048) :
    (Host.dotGeneral (F := Ideal) (DotDims.plain 4096 4096 2048) none (sitofp .f32 (extsi 32 x hx)) (sitofp .f32 (extsi 32 w hx)) (ix2 i q) : EReal)
      = (((∑ k : Fin 4096, (x (ix2 i k)).toInt * (w (ix2 k q)).toInt : ℤ) : ℝ) : EReal) := by
  rw [StackMember.dotGeneral_plain_apply, sum_ereal]
  exact Finset.sum_congr rfl fun k _ => by rw [convert_entry, convert_entry]

variable (m : (ℓ : Loc nD τ sig) → Buf (Elt Ideal) ℓ) (ρ : Dev nD → PrngReg)

/-- The accumulator's entry, when each device holds its columns of `x` and all hold the weight: the entry of the whole
product. -/
theorem total_value (x : Cert.ReferenceIdeal.S4096x4096.Idx → BitVec 8) (w : Cert.ReferenceIdeal.S4096x2048.Idx → BitVec 8)
    (hX : ∀ c : Dev nD, m ((c : Thread nD τ).loc main_arg0) = Layout.block ⟨2, ![4096, 512]⟩ ⟨2, ![4096, 4096]⟩ 1 8 c x)
    (hW : ∀ c : Dev nD, m ((c : Thread nD τ).loc main_arg1) = w) (c : Dev nD) (p : Fin 512) (q : Fin 2048) :
    (total m ρ c (ix2 p q)).toInt
      = ∑ k : Fin 4096, (x (ix2 ⟨512 * c.val + p.val, part_lt c p⟩ k)).toInt * (w (ix2 k q)).toInt := by
  have e : ∀ s : Dev nD, part (opX m ρ) (opW m ρ) c s p q
      = ∑ k : Fin 512, (x (ix2 ⟨512 * c.val + p.val, part_lt c p⟩ ⟨512 * s.val + k.val, part_lt s k⟩)).toInt
          * (w (ix2 ⟨512 * s.val + k.val, part_lt s k⟩ q)).toInt := fun s => by
    unfold part
    refine Finset.sum_congr rfl fun k _ => ?_
    rw [opX_eq, opW_eq, hX, hW]
    have hx : rowsX (F := Ideal) c (Layout.block ⟨2, ![4096, 512]⟩ ⟨2, ![4096, 4096]⟩ 1 8 s x) (ix2 p k)
        = x (ix2 ⟨512 * c.val + p.val, part_lt c p⟩ ⟨512 * s.val + k.val, part_lt s k⟩) := by
      refine congrArg x (funext fun a => Fin.ext ?_)
      fin_cases a
      · rfl
      · show s.val * 512 + k.val = 512 * s.val + k.val; omega
    have hw : rowsW (F := Ideal) s w (ix2 k q) = w (ix2 ⟨512 * s.val + k.val, part_lt s k⟩ q) := by
      refine congrArg w (funext fun a => Fin.ext ?_)
      fin_cases a <;> rfl
    rw [hx, hw]
  unfold total
  rw [total_entry]
  simp only [e]
  have h := sum_parts fun k => (x (ix2 ⟨512 * c.val + p.val, part_lt c p⟩ k)).toInt * (w (ix2 k q)).toInt
  have h' : (∑ s : Dev nD, ∑ k : Fin 512, (x (ix2 ⟨512 * c.val + p.val, part_lt c p⟩ ⟨512 * s.val + k.val, part_lt s k⟩)).toInt
      * (w (ix2 ⟨512 * s.val + k.val, part_lt s k⟩ q)).toInt)
      = ∑ k : Fin 4096, (x (ix2 ⟨512 * c.val + p.val, part_lt c p⟩ k)).toInt * (w (ix2 k q)).toInt := h.symm
  rw [h']
  exact toInt_sum _ _

/-- The kernel's result on device `c` is row block `c` of the reference's. -/
theorem out_value (x : Cert.ReferenceIdeal.S4096x4096.Idx → BitVec 8) (w : Cert.ReferenceIdeal.S4096x2048.Idx → BitVec 8)
    (a b : FVec Ideal Cert.ReferenceIdeal.S1 .f32)
    (hX : ∀ c : Dev nD, m ((c : Thread nD τ).loc main_arg0) = Layout.block ⟨2, ![4096, 512]⟩ ⟨2, ![4096, 4096]⟩ 1 8 c x)
    (hW : ∀ c : Dev nD, m ((c : Thread nD τ).loc main_arg1) = w)
    (hA : ∀ c : Dev nD, m ((c : Thread nD τ).loc main_arg2) = a) (hB : ∀ c : Dev nD, m ((c : Thread nD τ).loc main_arg3) = b)
    (c : Dev nD) : outAt m ρ c = Layout.block ⟨2, ![512, 2048]⟩ ⟨2, ![4096, 2048]⟩ 0 8 c (refOut x w a b) := by
  refine funext fun (j : S512x2048.Idx) => ?_
  obtain ⟨p, q, rfl⟩ : ∃ (p : Fin 512) (q : Fin 2048), j = ix2 p q := ⟨j 0, j 1, eq_ix2 j⟩
  have hi : (by decide : Layout.Tiles ⟨2, ![512, 2048]⟩ ⟨2, ![4096, 2048]⟩ 0 8).idx c (ix2 p q)
      = ix2 ⟨512 * c.val + p.val, part_lt c p⟩ q := funext fun ax => Fin.ext (by
    fin_cases ax
    · show c.val * 512 + p.val = 512 * c.val + p.val; omega
    · rfl)
  rw [Layout.block_apply, hi]
  have hd : (sitofp (F := Ideal) .f32 (total m ρ c) (ix2 p q) : EReal)
      = Host.dotGeneral (F := Ideal) (DotDims.plain 4096 4096 2048) none
          (sitofp .f32 (extsi 32 x Cert.ReferenceIdeal.Gen.facts.natLt_8_32)) (sitofp .f32 (extsi 32 w Cert.ReferenceIdeal.Gen.facts.natLt_8_32))
          (ix2 ⟨512 * c.val + p.val, part_lt c p⟩ q) := by
    rw [ref_product]
    show (((total m ρ c (ix2 p q)).toInt : ℝ) : EReal) = _
    rw [total_value m ρ x w hX hW]
  have ha : scalar (opA m ρ c) = a (ix1 0) := by rw [opA_eq, hA]; exact congrArg a (one_idx _ _)
  have hb : scalar (opB m ρ c) = b (ix1 0) := by rw [opB_eq, hB]; exact congrArg b (one_idx _ _)
  unfold outAt k0_pay1
  rw [ha, hb]
  show FloatOps.maximumf (FloatOps.mulf (sitofp (F := Ideal) .f32 (total m ρ c) (ix2 p q)) (FloatOps.mulf (a (ix1 0)) (b (ix1 0)))) _ = _
  rw [hd]
  exact (refScaled_entry _ a b (ix1 0) _).symm

end Results

end Cert.Exchange

end
-- ==== Proof.lean ====
/-
# The certificate

The run of the exchange gives the frames, and with the value of its result the agreement with the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem Cert.Exchange

section Exchange
open Cert.KernelIdeal Cert.KernelIdeal.Gen

/-- The exchange runs, ends with every semaphore at zero, leaves its operands, and leaves `outAt` in its result. -/
theorem run_exchange {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c =>
    ⟨(h.1 c (4 : Fin 5)).trans (finalA_out m ρ c),
     (h.1 c (0 : Fin 5)).trans (finalA_in m ρ c (0 : Fin 5) rfl),
     (h.1 c (1 : Fin 5)).trans (finalA_in m ρ c (1 : Fin 5) rfl),
     (h.1 c (2 : Fin 5)).trans (finalA_in m ρ c (2 : Fin 5) rfl),
     (h.1 c (3 : Fin 5)).trans (finalA_in m ρ c (3 : Fin 5) rfl)⟩, h.2⟩) (run_main m ρ)

end Exchange

/-- The kernel's two programs are one text. -/
theorem same_run {F : FTy → Type} [FloatOps F] (s : MemSt Cert.KernelIdeal.nD Cert.KernelIdeal.τ Cert.KernelIdeal.sig (Elt F))
    (Q : PUnit × MemSt Cert.KernelIdeal.nD Cert.KernelIdeal.τ Cert.KernelIdeal.sig (Elt F) → Prop) :
    θ_run (Cert.KernelIdeal.defs (F := F)) (onTc (τ := Cert.KernelIdeal.τ) (Cert.KernelIdeal.main (F := F))) s Q
      = θ_run (Cert.Kernel.defs (F := F)) (onTc (τ := Cert.Kernel.τ) (Cert.Kernel.main (F := F))) s Q := by
  sl_kernel_rfl

/-- The kernel, over words of bits. -/
theorem frame_kernel : Cert.quiescent_Kernel := fun m ρ _ =>
  (same_run (F := Bits) ⟨m, fun _ => 0, ρ⟩ _).mp
    ((θ_run _ _ _).mono (fun _ h => ⟨fun c => (h.1 c).2, h.2⟩) (run_exchange (F := Bits) m ρ))

/-- The kernel, over the extended reals. -/
theorem frame_kernelIdeal : Cert.quiescent_KernelIdeal := fun m ρ _ =>
  (θ_run _ _ _).mono (fun _ h => ⟨fun c => (h.1 c).2, h.2⟩) (run_exchange (F := Ideal) m ρ)

/-- The reference, over the extended reals. -/
theorem frame_referenceIdeal : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- The kernel computes the reference, row block by row block. -/
theorem algebraic : Cert.algebraic_KernelIdeal_ReferenceIdeal := fun m ρ m' ρ' _ h =>
  ⟨_, (θ_run _ _ _).mono (fun _ hr c =>
      ⟨(hr.1 c).1.trans (out_value m ρ _ _ _ _ (fun c => (h c).1) (fun c => (h c).2.1) (fun c => (h c).2.2.1) (fun c => (h c).2.2.2) c),
       (hr.1 c).2⟩) (run_exchange (F := Ideal) m ρ),
    (θ_run _ _ _).mono (fun _ hr => hr 0) (Cert.ReferenceIdeal.Value.run (F := Ideal) m' ρ')⟩

/-- Every claim. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
